-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9x4096x4608 : Shape := ⟨3, ![9, 4096, 4608]⟩
abbrev S9x4096x2304 : Shape := ⟨3, ![9, 4096, 2304]⟩
abbrev S9x18x4096 : Shape := ⟨3, ![9, 18, 4096]⟩
abbrev S1x512x4608 : Shape := ⟨3, ![1, 512, 4608]⟩
abbrev S1x512x2304 : Shape := ⟨3, ![1, 512, 2304]⟩
abbrev S1x18x512 : Shape := ⟨3, ![1, 18, 512]⟩
abbrev S256x256 : Shape := ⟨2, ![256, 256]⟩
abbrev S1x256x256 : Shape := ⟨3, ![1, 256, 256]⟩
abbrev S128x256 : Shape := ⟨2, ![128, 256]⟩
abbrev S256 : Shape := ⟨1, ![256]⟩
abbrev S1x256 : Shape := ⟨2, ![1, 256]⟩
abbrev S256x128 : Shape := ⟨2, ![256, 128]⟩
abbrev S1x256x128 : Shape := ⟨3, ![1, 256, 128]⟩
abbrev S1x1x256 : Shape := ⟨3, ![1, 1, 256]⟩

abbrev nBuf : Space → Nat
  | .hbm => 3
  | .vmem => 7
  | .smem => 0
  | _ => 0

abbrev bufTy : (tb : Table) → Fin (tcTables nBuf tb) → BufTy
  | .hbm, ⟨0, _⟩ => ⟨S9x4096x4608, .bf16⟩
  | .hbm, ⟨1, _⟩ => ⟨S9x4096x2304, .fp8e4m3⟩
  | .hbm, ⟨2, _⟩ => ⟨S9x18x4096, .f32⟩
  | .local _ .vmem, ⟨0, _⟩ => ⟨S1x512x4608, .bf16⟩
  | .local _ .vmem, ⟨1, _⟩ => ⟨S1x512x4608, .bf16⟩
  | .local _ .vmem, ⟨2, _⟩ => ⟨S1x512x2304, .fp8e4m3⟩
  | .local _ .vmem, ⟨3, _⟩ => ⟨S1x512x2304, .fp8e4m3⟩
  | .local _ .vmem, ⟨4, _⟩ => ⟨S1x18x512, .f32⟩
  | .local _ .vmem, ⟨5, _⟩ => ⟨S1x18x512, .f32⟩
  | .local _ .vmem, ⟨6, _⟩ => ⟨S256x256, .bf16⟩
  | _, _ => ⟨S9x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

@[reducible] def k0_t1_loop : Scf.Loop 32 :=
  let c0_i32_2 : BitVec 32 := 0#32
  let c2_i32 : BitVec 32 := 2#32
  let v5 : BitVec 32 := Scalar.addi c0_i32_2 c2_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  v6
def k0_off1 (k0_t1 : Fin k0_t1_loop.trips) : Fin 3 → Nat :=
  let c0 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v8 : Index := Scalar.indexCast v7
  let c0_4 : Index := 0#32
  ![0, v8.toNat, 0]
def k0_off2 (k0_t1 : Fin k0_t1_loop.trips) : Fin 3 → Nat :=
  let c0_22 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v68 : Index := Scalar.indexCast v7
  let c0_23 : Index := 0#32
  ![0, v68.toNat, 0]
def k0_off3 (k0_t1 : Fin k0_t1_loop.trips) : Fin 3 → Nat :=
  let c0_24 : Index := 0#32
  let c0_25 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v72 : Index := Scalar.indexCast v7
  ![0, 0, v72.toNat]
def k0_off4 (k0_t1 : Fin k0_t1_loop.trips) : Fin 3 → Nat :=
  let c0_26 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v76 : Index := Scalar.indexCast v7
  let c256 : Index := 256#32
  ![0, v76.toNat, 256]
def k0_off5 (k0_t1 : Fin k0_t1_loop.trips) : Fin 3 → Nat :=
  let c0_49 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v136 : Index := Scalar.indexCast v7
  let c128 : Index := 128#32
  ![0, v136.toNat, 128]
def k0_off6 (k0_t1 : Fin k0_t1_loop.trips) : Fin 3 → Nat :=
  let c0_50 : Index := 0#32
  let c1 : Index := 1#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v140 : Index := Scalar.indexCast v7
  ![0, 1, v140.toNat]
def k0_off7 (k0_t1 : Fin k0_t1_loop.trips) : Fin 3 → Nat :=
  let c0_51 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v144 : Index := Scalar.indexCast v7
  let c512 : Index := 512#32
  ![0, v144.toNat, 512]
def k0_off8 (k0_t1 : Fin k0_t1_loop.trips) : Fin 3 → Nat :=
  let c0_74 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v204 : Index := Scalar.indexCast v7
  let c256_75 : Index := 256#32
  ![0, v204.toNat, 256]
def k0_off9 (k0_t1 : Fin k0_t1_loop.trips) : Fin 3 → Nat :=
  let c0_76 : Index := 0#32
  let c2 : Index := 2#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v208 : Index := Scalar.indexCast v7
  ![0, 2, v208.toNat]
def k0_off10 (k0_t1 : Fin k0_t1_loop.trips) : Fin 3 → Nat :=
  let c0_77 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v212 : Index := Scalar.indexCast v7
  let c768 : Index := 768#32
  ![0, v212.toNat, 768]
def k0_off11 (k0_t1 : Fin k0_t1_loop.trips) : Fin 3 → Nat :=
  let c0_100 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v272 : Index := Scalar.indexCast v7
  let c384 : Index := 384#32
  ![0, v272.toNat, 384]
def k0_off12 (k0_t1 : Fin k0_t1_loop.trips) : Fin 3 → Nat :=
  let c0_101 : Index := 0#32
  let c3 : Index := 3#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v276 : Index := Scalar.indexCast v7
  ![0, 3, v276.toNat]
def k0_off13 (k0_t1 : Fin k0_t1_loop.trips) : Fin 3 → Nat :=
  let c0_102 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v280 : Index := Scalar.indexCast v7
  let c1024 : Index := 1024#32
  ![0, v280.toNat, 1024]
def k0_off14 (k0_t1 : Fin k0_t1_loop.trips) : Fin 3 → Nat :=
  let c0_125 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v340 : Index := Scalar.indexCast v7
  let c512_126 : Index := 512#32
  ![0, v340.toNat, 512]
def k0_off15 (k0_t1 : Fin k0_t1_loop.trips) : Fin 3 → Nat :=
  let c0_127 : Index := 0#32
  let c4 : Index := 4#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v344 : Index := Scalar.indexCast v7
  ![0, 4, v344.toNat]
def k0_off16 (k0_t1 : Fin k0_t1_loop.trips) : Fin 3 → Nat :=
  let c0_128 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v348 : Index := Scalar.indexCast v7
  let c1280 : Index := 1280#32
  ![0, v348.toNat, 1280]
def k0_off17 (k0_t1 : Fin k0_t1_loop.trips) : Fin 3 → Nat :=
  let c0_151 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v408 : Index := Scalar.indexCast v7
  let c640 : Index := 640#32
  ![0, v408.toNat, 640]
def k0_off18 (k0_t1 : Fin k0_t1_loop.trips) : Fin 3 → Nat :=
  let c0_152 : Index := 0#32
  let c5 : Index := 5#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v412 : Index := Scalar.indexCast v7
  ![0, 5, v412.toNat]
def k0_off19 (k0_t1 : Fin k0_t1_loop.trips) : Fin 3 → Nat :=
  let c0_153 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v416 : Index := Scalar.indexCast v7
  let c1536 : Index := 1536#32
  ![0, v416.toNat, 1536]
def k0_off20 (k0_t1 : Fin k0_t1_loop.trips) : Fin 3 → Nat :=
  let c0_176 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v476 : Index := Scalar.indexCast v7
  let c768_177 : Index := 768#32
  ![0, v476.toNat, 768]
def k0_off21 (k0_t1 : Fin k0_t1_loop.trips) : Fin 3 → Nat :=
  let c0_178 : Index := 0#32
  let c6 : Index := 6#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v480 : Index := Scalar.indexCast v7
  ![0, 6, v480.toNat]
def k0_off22 (k0_t1 : Fin k0_t1_loop.trips) : Fin 3 → Nat :=
  let c0_179 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v484 : Index := Scalar.indexCast v7
  let c1792 : Index := 1792#32
  ![0, v484.toNat, 1792]
def k0_off23 (k0_t1 : Fin k0_t1_loop.trips) : Fin 3 → Nat :=
  let c0_202 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v544 : Index := Scalar.indexCast v7
  let c896 : Index := 896#32
  ![0, v544.toNat, 896]
def k0_off24 (k0_t1 : Fin k0_t1_loop.trips) : Fin 3 → Nat :=
  let c0_203 : Index := 0#32
  let c7 : Index := 7#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v548 : Index := Scalar.indexCast v7
  ![0, 7, v548.toNat]
def k0_off25 (k0_t1 : Fin k0_t1_loop.trips) : Fin 3 → Nat :=
  let c0_204 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v552 : Index := Scalar.indexCast v7
  let c2048 : Index := 2048#32
  ![0, v552.toNat, 2048]
def k0_off26 (k0_t1 : Fin k0_t1_loop.trips) : Fin 3 → Nat :=
  let c0_227 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v612 : Index := Scalar.indexCast v7
  let c1024_228 : Index := 1024#32
  ![0, v612.toNat, 1024]
def k0_off27 (k0_t1 : Fin k0_t1_loop.trips) : Fin 3 → Nat :=
  let c0_229 : Index := 0#32
  let c8 : Index := 8#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v616 : Index := Scalar.indexCast v7
  ![0, 8, v616.toNat]
def k0_off28 (k0_t1 : Fin k0_t1_loop.trips) : Fin 3 → Nat :=
  let c0_230 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v620 : Index := Scalar.indexCast v7
  let c2304 : Index := 2304#32
  ![0, v620.toNat, 2304]
def k0_off29 (k0_t1 : Fin k0_t1_loop.trips) : Fin 3 → Nat :=
  let c0_253 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v680 : Index := Scalar.indexCast v7
  let c1152 : Index := 1152#32
  ![0, v680.toNat, 1152]
def k0_off30 (k0_t1 : Fin k0_t1_loop.trips) : Fin 3 → Nat :=
  let c0_254 : Index := 0#32
  let c9 : Index := 9#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v684 : Index := Scalar.indexCast v7
  ![0, 9, v684.toNat]
def k0_off31 (k0_t1 : Fin k0_t1_loop.trips) : Fin 3 → Nat :=
  let c0_255 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v688 : Index := Scalar.indexCast v7
  let c2560 : Index := 2560#32
  ![0, v688.toNat, 2560]
def k0_off32 (k0_t1 : Fin k0_t1_loop.trips) : Fin 3 → Nat :=
  let c0_278 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v748 : Index := Scalar.indexCast v7
  let c1280_279 : Index := 1280#32
  ![0, v748.toNat, 1280]
def k0_off33 (k0_t1 : Fin k0_t1_loop.trips) : Fin 3 → Nat :=
  let c0_280 : Index := 0#32
  let c10 : Index := 10#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v752 : Index := Scalar.indexCast v7
  ![0, 10, v752.toNat]
def k0_off34 (k0_t1 : Fin k0_t1_loop.trips) : Fin 3 → Nat :=
  let c0_281 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v756 : Index := Scalar.indexCast v7
  let c2816 : Index := 2816#32
  ![0, v756.toNat, 2816]
def k0_off35 (k0_t1 : Fin k0_t1_loop.trips) : Fin 3 → Nat :=
  let c0_304 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v816 : Index := Scalar.indexCast v7
  let c1408 : Index := 1408#32
  ![0, v816.toNat, 1408]
def k0_off36 (k0_t1 : Fin k0_t1_loop.trips) : Fin 3 → Nat :=
  let c0_305 : Index := 0#32
  let c11 : Index := 11#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v820 : Index := Scalar.indexCast v7
  ![0, 11, v820.toNat]
def k0_off37 (k0_t1 : Fin k0_t1_loop.trips) : Fin 3 → Nat :=
  let c0_306 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v824 : Index := Scalar.indexCast v7
  let c3072 : Index := 3072#32
  ![0, v824.toNat, 3072]
def k0_off38 (k0_t1 : Fin k0_t1_loop.trips) : Fin 3 → Nat :=
  let c0_329 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v884 : Index := Scalar.indexCast v7
  let c1536_330 : Index := 1536#32
  ![0, v884.toNat, 1536]
def k0_off39 (k0_t1 : Fin k0_t1_loop.trips) : Fin 3 → Nat :=
  let c0_331 : Index := 0#32
  let c12 : Index := 12#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v888 : Index := Scalar.indexCast v7
  ![0, 12, v888.toNat]
def k0_off40 (k0_t1 : Fin k0_t1_loop.trips) : Fin 3 → Nat :=
  let c0_332 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v892 : Index := Scalar.indexCast v7
  let c3328 : Index := 3328#32
  ![0, v892.toNat, 3328]
def k0_off41 (k0_t1 : Fin k0_t1_loop.trips) : Fin 3 → Nat :=
  let c0_355 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v952 : Index := Scalar.indexCast v7
  let c1664 : Index := 1664#32
  ![0, v952.toNat, 1664]
def k0_off42 (k0_t1 : Fin k0_t1_loop.trips) : Fin 3 → Nat :=
  let c0_356 : Index := 0#32
  let c13 : Index := 13#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v956 : Index := Scalar.indexCast v7
  ![0, 13, v956.toNat]
def k0_off43 (k0_t1 : Fin k0_t1_loop.trips) : Fin 3 → Nat :=
  let c0_357 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v960 : Index := Scalar.indexCast v7
  let c3584 : Index := 3584#32
  ![0, v960.toNat, 3584]
def k0_off44 (k0_t1 : Fin k0_t1_loop.trips) : Fin 3 → Nat :=
  let c0_380 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1020 : Index := Scalar.indexCast v7
  let c1792_381 : Index := 1792#32
  ![0, v1020.toNat, 1792]
def k0_off45 (k0_t1 : Fin k0_t1_loop.trips) : Fin 3 → Nat :=
  let c0_382 : Index := 0#32
  let c14 : Index := 14#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1024 : Index := Scalar.indexCast v7
  ![0, 14, v1024.toNat]
def k0_off46 (k0_t1 : Fin k0_t1_loop.trips) : Fin 3 → Nat :=
  let c0_383 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1028 : Index := Scalar.indexCast v7
  let c3840 : Index := 3840#32
  ![0, v1028.toNat, 3840]
def k0_off47 (k0_t1 : Fin k0_t1_loop.trips) : Fin 3 → Nat :=
  let c0_406 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1088 : Index := Scalar.indexCast v7
  let c1920 : Index := 1920#32
  ![0, v1088.toNat, 1920]
def k0_off48 (k0_t1 : Fin k0_t1_loop.trips) : Fin 3 → Nat :=
  let c0_407 : Index := 0#32
  let c15 : Index := 15#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1092 : Index := Scalar.indexCast v7
  ![0, 15, v1092.toNat]
def k0_off49 (k0_t1 : Fin k0_t1_loop.trips) : Fin 3 → Nat :=
  let c0_408 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1096 : Index := Scalar.indexCast v7
  let c4096 : Index := 4096#32
  ![0, v1096.toNat, 4096]
def k0_off50 (k0_t1 : Fin k0_t1_loop.trips) : Fin 3 → Nat :=
  let c0_431 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1156 : Index := Scalar.indexCast v7
  let c2048_432 : Index := 2048#32
  ![0, v1156.toNat, 2048]
def k0_off51 (k0_t1 : Fin k0_t1_loop.trips) : Fin 3 → Nat :=
  let c0_433 : Index := 0#32
  let c16 : Index := 16#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1160 : Index := Scalar.indexCast v7
  ![0, 16, v1160.toNat]
def k0_off52 (k0_t1 : Fin k0_t1_loop.trips) : Fin 3 → Nat :=
  let c0_434 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1164 : Index := Scalar.indexCast v7
  let c4352 : Index := 4352#32
  ![0, v1164.toNat, 4352]
def k0_off53 (k0_t1 : Fin k0_t1_loop.trips) : Fin 3 → Nat :=
  let c0_457 : Index := 0#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1224 : Index := Scalar.indexCast v7
  let c2176 : Index := 2176#32
  ![0, v1224.toNat, 2176]
def k0_off54 (k0_t1 : Fin k0_t1_loop.trips) : Fin 3 → Nat :=
  let c0_458 : Index := 0#32
  let c17 : Index := 17#32
  let c0_i32_2 : BitVec 32 := 0#32
  let c1_i32 : BitVec 32 := 1#32
  let arg6 : BitVec 32 := Scf.iv c0_i32_2 c1_i32 k0_t1
  let c256_i32 : BitVec 32 := 256#32
  let v6 : BitVec 32 := Scalar.muli arg6 c256_i32
  let v7 : BitVec 32 := v6
  let v1228 : Index := Scalar.indexCast v7
  ![0, 17, v1228.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x18x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S9x4096x4608 : Shape := ⟨3, ![9, 4096, 4608]⟩
abbrev S9x4096x2304 : Shape := ⟨3, ![9, 4096, 2304]⟩
abbrev S_ : Shape := ⟨0, ![]⟩
abbrev S9x4096x18x128 : Shape := ⟨4, ![9, 4096, 18, 128]⟩
abbrev S9x4096x18 : Shape := ⟨3, ![9, 4096, 18]⟩
abbrev S9x18x4096 : Shape := ⟨3, ![9, 18, 4096]⟩
abbrev S9x4096x18x1 : Shape := ⟨4, ![9, 4096, 18, 1]⟩

abbrev nBuf : Space → Nat
  | .hbm => 71
  | .vmem => 2
  | .smem => 0
  | _ => 0

abbrev bufTy : (tb : Table) → Fin (tcTables nBuf tb) → BufTy
  | .hbm, ⟨0, _⟩ => ⟨S9x4096x4608, .bf16⟩
  | .hbm, ⟨1, _⟩ => ⟨S9x4096x2304, .bf16⟩
  | .hbm, ⟨2, _⟩ => ⟨S9x4096x2304, .f32⟩
  | .hbm, ⟨3, _⟩ => ⟨S9x4096x2304, .bf16⟩
  | .hbm, ⟨4, _⟩ => ⟨S9x4096x2304, .f32⟩
  | .hbm, ⟨5, _⟩ => ⟨S9x4096x2304, .f32⟩
  | .hbm, ⟨6, _⟩ => ⟨S9x4096x2304, .f32⟩
  | .hbm, ⟨7, _⟩ => ⟨S_, .f32⟩
  | .hbm, ⟨8, _⟩ => ⟨S9x4096x2304, .f32⟩
  | .hbm, ⟨9, _⟩ => ⟨S9x4096x2304, .f32⟩
  | .hbm, ⟨10, _⟩ => ⟨S_, .f32⟩
  | .hbm, ⟨11, _⟩ => ⟨S9x4096x2304, .f32⟩
  | .hbm, ⟨12, _⟩ => ⟨S9x4096x2304, .f32⟩
  | .hbm, ⟨13, _⟩ => ⟨S9x4096x2304, .f32⟩
  | .hbm, ⟨14, _⟩ => ⟨S9x4096x2304, .f32⟩
  | .hbm, ⟨15, _⟩ => ⟨S9x4096x18x128, .f32⟩
  | .hbm, ⟨16, _⟩ => ⟨S9x4096x18x128, .f32⟩
  | .hbm, ⟨17, _⟩ => ⟨S_, .f32⟩
  | .hbm, ⟨18, _⟩ => ⟨S9x4096x18, .f32⟩
  | .hbm, ⟨19, _⟩ => ⟨S_, .f32⟩
  | .hbm, ⟨20, _⟩ => ⟨S9x4096x18, .f32⟩
  | .hbm, ⟨21, _⟩ => ⟨S9x4096x18, .f32⟩
  | .hbm, ⟨22, _⟩ => ⟨S_, .f32⟩
  | .hbm, ⟨23, _⟩ => ⟨S9x4096x18, .f32⟩
  | .hbm, ⟨24, _⟩ => ⟨S9x4096x18, .i1⟩
  | .hbm, ⟨25, _⟩ => ⟨S9x4096x18, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S9x4096x18, .f32⟩
  | .hbm, ⟨30, _⟩ => ⟨S9x4096x18, .f32⟩
  | .hbm, ⟨31, _⟩ => ⟨S9x4096x18, .f32⟩
  | .hbm, ⟨32, _⟩ => ⟨S_, .f32⟩
  | .hbm, ⟨33, _⟩ => ⟨S9x4096x18, .f32⟩
  | .hbm, ⟨34, _⟩ => ⟨S9x4096x18, .f32⟩
  | .hbm, ⟨35, _⟩ => ⟨S_, .f32⟩
  | .hbm, ⟨36, _⟩ => ⟨S_, .f32⟩
  | .hbm, ⟨37, _⟩ => ⟨S9x4096x18, .f32⟩
  | .hbm, ⟨38, _⟩ => ⟨S9x4096x18, .f32⟩
  | .hbm, ⟨39, _⟩ => ⟨S_, .f32⟩
  | .hbm, ⟨40, _⟩ => ⟨S9x4096x18, .f32⟩
  | .hbm, ⟨41, _⟩ => ⟨S9x4096x18, .i1⟩
  | .hbm, ⟨42, _⟩ => ⟨S_, .f32⟩
  | .hbm, ⟨43, _⟩ => ⟨S9x4096x18, .f32⟩
  | .hbm, ⟨44, _⟩ => ⟨S9x4096x18, .i1⟩
  | .hbm, ⟨45, _⟩ => ⟨S9x4096x18, .i1⟩
  | .hbm, ⟨46, _⟩ => ⟨S_, .f32⟩
  | .hbm, ⟨47, _⟩ => ⟨S_, .f32⟩
  | .hbm, ⟨48, _⟩ => ⟨S9x4096x18, .f32⟩
  | .hbm, ⟨49, _⟩ => ⟨S9x4096x18, .f32⟩
  | .hbm, ⟨50, _⟩ => ⟨S_, .f32⟩
  | .hbm, ⟨51, _⟩ => ⟨S9x4096x18, .f32⟩
  | .hbm, ⟨52, _⟩ => ⟨S9x4096x18, .f32⟩
  | .hbm, ⟨53, _⟩ => ⟨S9x18x4096, .f32⟩
  | .hbm, ⟨54, _⟩ => ⟨S9x4096x18, .f32⟩
  | .hbm, ⟨55, _⟩ => ⟨S_, .f32⟩
  | .hbm, ⟨56, _⟩ => ⟨S9x4096x18, .f32⟩
  | .hbm, ⟨57, _⟩ => ⟨S9x4096x18, .f32⟩
  | .hbm, ⟨58, _⟩ => ⟨S9x4096x18x1, .f32⟩
  | .hbm, ⟨59, _⟩ => ⟨S9x4096x18x128, .f32⟩
  | .hbm, ⟨60, _⟩ => ⟨S9x4096x18x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S9x4096x18x128, .f32⟩
  | .hbm, ⟨65, _⟩ => ⟨S9x4096x18x128, .f32⟩
  | .hbm, ⟨66, _⟩ => ⟨S_, .f32⟩
  | .hbm, ⟨67, _⟩ => ⟨S9x4096x18x128, .f32⟩
  | .hbm, ⟨68, _⟩ => ⟨S9x4096x18x128, .f32⟩
  | .hbm, ⟨69, _⟩ => ⟨S9x4096x2304, .f32⟩
  | .hbm, ⟨70, _⟩ => ⟨S9x4096x2304, .fp8e4m3⟩
  | .local _ .vmem, ⟨0, _⟩ => ⟨S9x4096x2304, .f32⟩
  | .local _ .vmem, ⟨1, _⟩ => ⟨S9x4096x2304, .fp8e4m3⟩
  | _, _ => ⟨S9x4096x4608, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_5 : Ref sig .tc := ⟨.hbm, 32, rfl⟩
abbrev main_v25 : Ref sig .tc := ⟨.hbm, 33, rfl⟩
abbrev main_v26 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_cst_13 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S9x4096x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x4096x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Trip.lean ====
/- What one pass of the kernel's body leaves in its two output blocks.

   The body walks the input block in two slabs of 256 tokens, and each slab in eighteen groups. Every
   group does the same computation on its own 256×256 window of the input block and the selection
   matrix: it stores a tile of codes and a row of scales. The printed program spells the eighteen
   groups out; here each of them is shown to be one pair of functions, `groupCodes` and `groupScale`,
   and the two blocks are given as one function each of the input block and the selection matrix.
   Nothing here depends on what a float is. -/
module

public import proofs.«01_k».proof.Proof.Gen.KernelIdeal.Value

@[expose] public section

set_option maxRecDepth 16384

noncomputable section

namespace Cert.KernelIdeal.Trip

open Cert.KernelIdeal Cert.KernelIdeal.Gen Idealize.ShloMosaic Idealize.ShloMosaic.TcCoe Idealize.SL.Sem

variable {F : FTy → Type} [FloatOps F]

/-- The tile of codes that one group stores, from its window of the input and the selection matrix. -/
def groupCodes (x : Vec F S1x256x256 .bf16) (s : Vec F S256x256 .bf16) : Vec F S1x256x128 .fp8e4m3 :=
  k0_pay9 (k0_pay4 x s) (k0_pay5 x s) (k0_pay6 x s) k0_pay7

/-- The row of scales that one group stores, from its window of the input and the selection matrix. -/
def groupScale (x : Vec F S1x256x256 .bf16) (s : Vec F S256x256 .bf16) : Vec F S1x1x256 .f32 :=
  k0_pay10 (F := F) (k0_pay5 x s) (k0_pay6 x s) k0_pay7

/-- The window of an input block that group `j` of slab `q` reads: 256 tokens, 256 interleaved columns. -/
def window (X : Vec F S1x512x4608 .bf16) (q : Fin 2) (j : Fin 18) : Vec F S1x256x256 .bf16 := fun z =>
  X fun a => match a with
    | ⟨0, _⟩ => ⟨0, Nat.zero_lt_one⟩
    | ⟨1, _⟩ => ⟨256 * q.val + (z 1).val, by
        have h1 : (z 1).val < 256 := (z 1).isLt
        show 256 * q.val + (z 1).val < 512
        omega⟩
    | ⟨2, _⟩ => ⟨256 * j.val + (z 2).val, by
        have h2 : (z 2).val < 256 := (z 2).isLt
        show 256 * j.val + (z 2).val < 4608
        omega⟩

/-- A whole block of codes: the element at a token and a column is the one its group stores. -/
def blockCodes (X : Vec F S1x512x4608 .bf16) (s : Vec F S256x256 .bf16) : Vec F S1x512x2304 .fp8e4m3 := fun y =>
  have h1 : (y 1).val < 512 := (y 1).isLt
  have h2 : (y 2).val < 2304 := (y 2).isLt
  groupCodes (window X ⟨(y 1).val / 256, by omega⟩ ⟨(y 2).val / 128, by omega⟩) s fun a => match a with
    | ⟨0, _⟩ => ⟨0, Nat.zero_lt_one⟩
    | ⟨1, _⟩ => ⟨(y 1).val % 256, Nat.mod_lt _ (by decide)⟩
    | ⟨2, _⟩ => ⟨(y 2).val % 128, Nat.mod_lt _ (by decide)⟩

/-- A whole block of scales: the element at a group and a token is the one that group stores. -/
def blockScale (X : Vec F S1x512x4608 .bf16) (s : Vec F S256x256 .bf16) : Vec F S1x18x512 .f32 := fun y =>
  have h1 : (y 1).val < 18 := (y 1).isLt
  have h2 : (y 2).val < 512 := (y 2).isLt
  groupScale (window X ⟨(y 2).val / 256, by omega⟩ ⟨(y 1).val, h1⟩) s fun a => match a with
    | ⟨0, _⟩ => ⟨0, Nat.zero_lt_one⟩
    | ⟨1, _⟩ => ⟨0, Nat.zero_lt_one⟩
    | ⟨2, _⟩ => ⟨(y 2).val % 256, Nat.mod_lt _ (by decide)⟩

section Group

variable (arg2 : Memref sig .tc .vmem S1x512x4608 .bf16) (X2 : BufTy.Contents (Elt F) arg2.view.ty)
  (s : Vec F S256x256 .bf16) (q : ℕ) (hq : q < 2) (j : Fin 18)

include hq in
/-- A group's window lies inside the block. -/
theorem load_inb {ox : Fin 3 → ℕ} (hx : ox = ![0, 256 * q, 256 * j.val]) (a : Fin 3) :
    ox a + S1x256x256.size a ≤ S1x512x4608.size a := by
  subst hx
  match a with
  | ⟨0, _⟩ => exact le_rfl
  | ⟨1, _⟩ => show 256 * q + 256 ≤ 512; omega
  | ⟨2, _⟩ => show 256 * j.val + 256 ≤ 4608; omega

include hq in
/-- What a group loads is its window of the block. -/
theorem load_eq {ox : Fin 3 → ℕ} (hx : ox = ![0, 256 * q, 256 * j.val])
    (inx : ∀ a, ox a + S1x256x256.size a ≤ S1x512x4608.size a) :
    arg2.view.readAt (Elt F) (Rect.unit (s := S1x512x4608) ox S1x256x256.size inx).toLoadRect X2
      = window (arg2.view.read (Elt F) X2) ⟨q, hq⟩ j := by
  subst hx
  funext z
  rw [View.readAt_apply]
  have h0 : (z 0).val < 1 := (z 0).isLt
  refine congrArg _ (funext fun a => Fin.ext ?_)
  match a with
  | ⟨0, _⟩ => show 0 + 1 * (z 0).val = 0; omega
  | ⟨1, _⟩ => show 256 * q + 1 * (z 1).val = 256 * q + (z 1).val; omega
  | ⟨2, _⟩ => show 256 * j.val + 1 * (z 2).val = 256 * j.val + (z 2).val; omega

include hq in
/-- The tile a group stores agrees with `blockCodes` at every place of the block it is stored to. -/
theorem codes_agree {ox oc : Fin 3 → ℕ} (hx : ox = ![0, 256 * q, 256 * j.val]) (hc : oc = ![0, 256 * q, 128 * j.val])
    {inc : ∀ a, oc a + S1x256x128.size a ≤ S1x512x2304.size a} {p : Vec F S1x256x128 .fp8e4m3}
    (hp : p = groupCodes (arg2.view.readAt (Elt F) (Rect.unit (s := S1x512x4608) ox S1x256x256.size (load_inb q hq j hx)).toLoadRect X2) s)
    (x : S1x256x128.Idx) :
    p x = blockCodes (arg2.view.read (Elt F) X2) s ((Rect.unit (s := S1x512x2304) oc S1x256x128.size inc).emb x) := by
  rw [hp, load_eq arg2 X2 q hq j hx]
  subst hc
  have h0 : (x 0).val < 1 := (x 0).isLt
  have h1 : (x 1).val < 256 := (x 1).isLt
  have h2 : (x 2).val < 128 := (x 2).isLt
  have e1 : ((Rect.unit (s := S1x512x2304) ![0, 256 * q, 128 * j.val] S1x256x128.size inc).emb x 1).val = 256 * q + 1 * (x 1).val := rfl
  have e2 : ((Rect.unit (s := S1x512x2304) ![0, 256 * q, 128 * j.val] S1x256x128.size inc).emb x 2).val = 128 * j.val + 1 * (x 2).val := rfl
  unfold blockCodes
  dsimp only
  have a1 : (⟨q, hq⟩ : Fin 2) = ⟨((Rect.unit (s := S1x512x2304) ![0, 256 * q, 128 * j.val] S1x256x128.size inc).emb x 1).val / 256, by rw [e1]; omega⟩ :=
    Fin.ext (by show q = _ / 256; rw [e1]; omega)
  have a2 : j = ⟨((Rect.unit (s := S1x512x2304) ![0, 256 * q, 128 * j.val] S1x256x128.size inc).emb x 2).val / 128, by rw [e2]; omega⟩ :=
    Fin.ext (by show j.val = _ / 128; rw [e2]; omega)
  rw [← a1, ← a2]
  refine congrArg _ (funext fun a => Fin.ext ?_)
  match a with
  | ⟨0, _⟩ => show (x 0).val = 0; omega
  | ⟨1, _⟩ => show (x 1).val = _ % 256; rw [e1]; omega
  | ⟨2, _⟩ => show (x 2).val = _ % 128; rw [e2]; omega

include hq in
/-- The row a group stores agrees with `blockScale` at every place of the block it is stored to. -/
theorem scale_agree {ox oc : Fin 3 → ℕ} (hx : ox = ![0, 256 * q, 256 * j.val]) (hc : oc = ![0, j.val, 256 * q])
    {inc : ∀ a, oc a + S1x1x256.size a ≤ S1x18x512.size a} {p : Vec F S1x1x256 .f32}
    (hp : p = groupScale (arg2.view.readAt (Elt F) (Rect.unit (s := S1x512x4608) ox S1x256x256.size (load_inb q hq j hx)).toLoadRect X2) s)
    (x : S1x1x256.Idx) :
    p x = blockScale (arg2.view.read (Elt F) X2) s ((Rect.unit (s := S1x18x512) oc S1x1x256.size inc).emb x) := by
  rw [hp, load_eq arg2 X2 q hq j hx]
  subst hc
  have h0 : (x 0).val < 1 := (x 0).isLt
  have h1 : (x 1).val < 1 := (x 1).isLt
  have h2 : (x 2).val < 256 := (x 2).isLt
  have e1 : ((Rect.unit (s := S1x18x512) ![0, j.val, 256 * q] S1x1x256.size inc).emb x 1).val = j.val + 1 * (x 1).val := rfl
  have e2 : ((Rect.unit (s := S1x18x512) ![0, j.val, 256 * q] S1x1x256.size inc).emb x 2).val = 256 * q + 1 * (x 2).val := rfl
  unfold blockScale
  dsimp only
  have a1 : (⟨q, hq⟩ : Fin 2) = ⟨((Rect.unit (s := S1x18x512) ![0, j.val, 256 * q] S1x1x256.size inc).emb x 2).val / 256, by rw [e2]; omega⟩ :=
    Fin.ext (by show q = _ / 256; rw [e2]; omega)
  have a2 : j = ⟨((Rect.unit (s := S1x18x512) ![0, j.val, 256 * q] S1x1x256.size inc).emb x 1).val, by rw [e1]; omega⟩ :=
    Fin.ext (by show j.val = _; rw [e1]; omega)
  rw [← a1, ← a2]
  refine congrArg _ (funext fun a => Fin.ext ?_)
  match a with
  | ⟨0, _⟩ => show (x 0).val = 0; omega
  | ⟨1, _⟩ => show (x 1).val = 0; omega
  | ⟨2, _⟩ => show (x 2).val = _ % 256; rw [e2]; omega

end Group

section Trip

variable (𝒱 : Variants) (c : Dev nD) (bd : Option 𝒱.V) (i : grid0.Coords)
  (arg2 : Memref sig .tc .vmem S1x512x4608 .bf16) (harg2 : arg2.IsWhole)
  (arg3 : Memref sig .tc .vmem S1x512x2304 .fp8e4m3) (harg3 : arg3.IsWhole)
  (arg4 : Memref sig .tc .vmem S1x18x512 .f32) (harg4 : arg4.IsWhole)
  (arg5 : Memref sig .tc .vmem S256x256 .bf16) (harg5 : arg5.IsWhole)
  (X2 : BufTy.Contents (Elt F) arg2.view.ty) (X5 : BufTy.Contents (Elt F) arg5.view.ty)

/-- The selection matrix as every group loads it: the whole scratch buffer. -/
abbrev selLoad : Vec F S256x256 .bf16 :=
  arg5.view.readAt (Elt F) (Rect.unit (s := S256x256) ![0, 0] S256x256.size inb_S256x256_S256x256_0_0).toLoadRect X5

theorem selLoad_eq : selLoad arg5 X5 = arg5.view.read (Elt F) X5 := by
  funext z
  refine congrArg (arg5.view.read (Elt F) X5) (funext fun a => Fin.ext ?_)
  match a with
  | ⟨0, _⟩ => show 0 + 1 * (z 0).val = (z 0).val; omega
  | ⟨1, _⟩ => show 0 + 1 * (z 1).val = (z 1).val; omega

/-- Every tile of codes that slab `k` stores agrees with `blockCodes` of the input block. -/
theorem trip_codes (k : Fin k0_t1_loop.trips) :
    ∀ p ∈ (trip_k0_t1 (F := F) 𝒱 c bd i arg2 harg2 arg3 harg3 arg4 harg4 arg5 harg5 X2 X5 k).1, ∀ x,
      p.2 x = blockCodes (arg2.view.read (Elt F) X2) (arg5.view.read (Elt F) X5) (p.1.emb x) := by
  have hk : k.val < 2 := Nat.lt_of_lt_of_le k.isLt k0_t1_abs.2.1
  rw [← selLoad_eq]
  unfold trip_k0_t1
  dsimp only
  simp only [List.forall_mem_cons]
  refine ⟨fun x => codes_agree arg2 X2 _ k.val hk 17 (k0_off52_eq k) (k0_off53_eq k) ?_ x,
    fun x => codes_agree arg2 X2 _ k.val hk 16 (k0_off49_eq k) (k0_off50_eq k) ?_ x,
    fun x => codes_agree arg2 X2 _ k.val hk 15 (k0_off46_eq k) (k0_off47_eq k) ?_ x,
    fun x => codes_agree arg2 X2 _ k.val hk 14 (k0_off43_eq k) (k0_off44_eq k) ?_ x,
    fun x => codes_agree arg2 X2 _ k.val hk 13 (k0_off40_eq k) (k0_off41_eq k) ?_ x,
    fun x => codes_agree arg2 X2 _ k.val hk 12 (k0_off37_eq k) (k0_off38_eq k) ?_ x,
    fun x => codes_agree arg2 X2 _ k.val hk 11 (k0_off34_eq k) (k0_off35_eq k) ?_ x,
    fun x => codes_agree arg2 X2 _ k.val hk 10 (k0_off31_eq k) (k0_off32_eq k) ?_ x,
    fun x => codes_agree arg2 X2 _ k.val hk 9 (k0_off28_eq k) (k0_off29_eq k) ?_ x,
    fun x => codes_agree arg2 X2 _ k.val hk 8 (k0_off25_eq k) (k0_off26_eq k) ?_ x,
    fun x => codes_agree arg2 X2 _ k.val hk 7 (k0_off22_eq k) (k0_off23_eq k) ?_ x,
    fun x => codes_agree arg2 X2 _ k.val hk 6 (k0_off19_eq k) (k0_off20_eq k) ?_ x,
    fun x => codes_agree arg2 X2 _ k.val hk 5 (k0_off16_eq k) (k0_off17_eq k) ?_ x,
    fun x => codes_agree arg2 X2 _ k.val hk 4 (k0_off13_eq k) (k0_off14_eq k) ?_ x,
    fun x => codes_agree arg2 X2 _ k.val hk 3 (k0_off10_eq k) (k0_off11_eq k) ?_ x,
    fun x => codes_agree arg2 X2 _ k.val hk 2 (k0_off7_eq k) (k0_off8_eq k) ?_ x,
    fun x => codes_agree arg2 X2 _ k.val hk 1 (k0_off4_eq k) (k0_off5_eq k) ?_ x,
    fun x => codes_agree arg2 X2 _ k.val hk 0 (k0_off1_eq k) (k0_off2_eq k) ?_ x,
    fun p hp => nomatch hp⟩
  all_goals
    dsimp only [
    groupCodes, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128,
    trip_k0_t1.sl.r, trip_k0_t1.sl.r_1, trip_k0_t1.sl.r_2, trip_k0_t1.sl.r_3, trip_k0_t1.sl.r_4,
    trip_k0_t1.sl.r_5, trip_k0_t1.sl.r_6, trip_k0_t1.sl.r_7, trip_k0_t1.sl.r_8, trip_k0_t1.sl.r_9,
    trip_k0_t1.sl.r_10, trip_k0_t1.sl.r_11, trip_k0_t1.sl.r_12, trip_k0_t1.sl.r_13, trip_k0_t1.sl.r_14,
    trip_k0_t1.sl.r_15, trip_k0_t1.sl.r_16, trip_k0_t1.sl.r_17, trip_k0_t1.sl.r_18, trip_k0_t1.sl.r_19,
    trip_k0_t1.sl.r_20, trip_k0_t1.sl.r_21, trip_k0_t1.sl.r_22, trip_k0_t1.sl.r_23, trip_k0_t1.sl.r_24,
    trip_k0_t1.sl.r_25, trip_k0_t1.sl.r_26, trip_k0_t1.sl.r_27, trip_k0_t1.sl.r_28, trip_k0_t1.sl.r_29,
    trip_k0_t1.sl.r_30, trip_k0_t1.sl.r_31, trip_k0_t1.sl.r_32, trip_k0_t1.sl.r_33, trip_k0_t1.sl.r_34,
    trip_k0_t1.sl.r_35, trip_k0_t1.sl.r_36, trip_k0_t1.sl.r_37, trip_k0_t1.sl.r_38, trip_k0_t1.sl.r_39,
    trip_k0_t1.sl.r_40, trip_k0_t1.sl.r_41, trip_k0_t1.sl.r_42, trip_k0_t1.sl.r_43, trip_k0_t1.sl.r_44,
    trip_k0_t1.sl.r_45, trip_k0_t1.sl.r_46, trip_k0_t1.sl.r_47, trip_k0_t1.sl.r_48, trip_k0_t1.sl.r_49,
    trip_k0_t1.sl.r_50, trip_k0_t1.sl.r_51, trip_k0_t1.sl.r_52, trip_k0_t1.sl.r_53, trip_k0_t1.sl.r_54,
    trip_k0_t1.sl.r_55, trip_k0_t1.sl.r_56, trip_k0_t1.sl.r_57, trip_k0_t1.sl.r_58, trip_k0_t1.sl.r_59,
    trip_k0_t1.sl.r_60, trip_k0_t1.sl.r_61, trip_k0_t1.sl.r_62, trip_k0_t1.sl.r_63, trip_k0_t1.sl.r_64]
  all_goals rfl

/-- Every row of scales that slab `k` stores agrees with `blockScale` of the input block. -/
theorem trip_scale (k : Fin k0_t1_loop.trips) :
    ∀ p ∈ (trip_k0_t1 (F := F) 𝒱 c bd i arg2 harg2 arg3 harg3 arg4 harg4 arg5 harg5 X2 X5 k).2.1, ∀ x,
      p.2 x = blockScale (arg2.view.read (Elt F) X2) (arg5.view.read (Elt F) X5) (p.1.emb x) := by
  have hk : k.val < 2 := Nat.lt_of_lt_of_le k.isLt k0_t1_abs.2.1
  rw [← selLoad_eq]
  unfold trip_k0_t1
  dsimp only
  simp only [List.forall_mem_cons]
  refine ⟨fun x => scale_agree arg2 X2 _ k.val hk 17 (k0_off52_eq k) (k0_off54_eq k) ?_ x,
    fun x => scale_agree arg2 X2 _ k.val hk 16 (k0_off49_eq k) (k0_off51_eq k) ?_ x,
    fun x => scale_agree arg2 X2 _ k.val hk 15 (k0_off46_eq k) (k0_off48_eq k) ?_ x,
    fun x => scale_agree arg2 X2 _ k.val hk 14 (k0_off43_eq k) (k0_off45_eq k) ?_ x,
    fun x => scale_agree arg2 X2 _ k.val hk 13 (k0_off40_eq k) (k0_off42_eq k) ?_ x,
    fun x => scale_agree arg2 X2 _ k.val hk 12 (k0_off37_eq k) (k0_off39_eq k) ?_ x,
    fun x => scale_agree arg2 X2 _ k.val hk 11 (k0_off34_eq k) (k0_off36_eq k) ?_ x,
    fun x => scale_agree arg2 X2 _ k.val hk 10 (k0_off31_eq k) (k0_off33_eq k) ?_ x,
    fun x => scale_agree arg2 X2 _ k.val hk 9 (k0_off28_eq k) (k0_off30_eq k) ?_ x,
    fun x => scale_agree arg2 X2 _ k.val hk 8 (k0_off25_eq k) (k0_off27_eq k) ?_ x,
    fun x => scale_agree arg2 X2 _ k.val hk 7 (k0_off22_eq k) (k0_off24_eq k) ?_ x,
    fun x => scale_agree arg2 X2 _ k.val hk 6 (k0_off19_eq k) (k0_off21_eq k) ?_ x,
    fun x => scale_agree arg2 X2 _ k.val hk 5 (k0_off16_eq k) (k0_off18_eq k) ?_ x,
    fun x => scale_agree arg2 X2 _ k.val hk 4 (k0_off13_eq k) (k0_off15_eq k) ?_ x,
    fun x => scale_agree arg2 X2 _ k.val hk 3 (k0_off10_eq k) (k0_off12_eq k) ?_ x,
    fun x => scale_agree arg2 X2 _ k.val hk 2 (k0_off7_eq k) (k0_off9_eq k) ?_ x,
    fun x => scale_agree arg2 X2 _ k.val hk 1 (k0_off4_eq k) (k0_off6_eq k) ?_ x,
    fun x => scale_agree arg2 X2 _ k.val hk 0 (k0_off1_eq k) (k0_off3_eq k) ?_ x,
    fun p hp => nomatch hp⟩
  all_goals
    dsimp only [
    groupScale, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128,
    trip_k0_t1.sl.r, trip_k0_t1.sl.r_1, trip_k0_t1.sl.r_2, trip_k0_t1.sl.r_3, trip_k0_t1.sl.r_4,
    trip_k0_t1.sl.r_5, trip_k0_t1.sl.r_6, trip_k0_t1.sl.r_7, trip_k0_t1.sl.r_8, trip_k0_t1.sl.r_9,
    trip_k0_t1.sl.r_10, trip_k0_t1.sl.r_11, trip_k0_t1.sl.r_12, trip_k0_t1.sl.r_13, trip_k0_t1.sl.r_14,
    trip_k0_t1.sl.r_15, trip_k0_t1.sl.r_16, trip_k0_t1.sl.r_17, trip_k0_t1.sl.r_18, trip_k0_t1.sl.r_19,
    trip_k0_t1.sl.r_20, trip_k0_t1.sl.r_21, trip_k0_t1.sl.r_22, trip_k0_t1.sl.r_23, trip_k0_t1.sl.r_24,
    trip_k0_t1.sl.r_25, trip_k0_t1.sl.r_26, trip_k0_t1.sl.r_27, trip_k0_t1.sl.r_28, trip_k0_t1.sl.r_29,
    trip_k0_t1.sl.r_30, trip_k0_t1.sl.r_31, trip_k0_t1.sl.r_32, trip_k0_t1.sl.r_33, trip_k0_t1.sl.r_34,
    trip_k0_t1.sl.r_35, trip_k0_t1.sl.r_36, trip_k0_t1.sl.r_37, trip_k0_t1.sl.r_38, trip_k0_t1.sl.r_39,
    trip_k0_t1.sl.r_40, trip_k0_t1.sl.r_41, trip_k0_t1.sl.r_42, trip_k0_t1.sl.r_43, trip_k0_t1.sl.r_44,
    trip_k0_t1.sl.r_45, trip_k0_t1.sl.r_46, trip_k0_t1.sl.r_47, trip_k0_t1.sl.r_48, trip_k0_t1.sl.r_49,
    trip_k0_t1.sl.r_50, trip_k0_t1.sl.r_51, trip_k0_t1.sl.r_52, trip_k0_t1.sl.r_53, trip_k0_t1.sl.r_54,
    trip_k0_t1.sl.r_55, trip_k0_t1.sl.r_56, trip_k0_t1.sl.r_57, trip_k0_t1.sl.r_58, trip_k0_t1.sl.r_59,
    trip_k0_t1.sl.r_60, trip_k0_t1.sl.r_61, trip_k0_t1.sl.r_62, trip_k0_t1.sl.r_63, trip_k0_t1.sl.r_64]
  all_goals rfl

/-- So do all the pieces of the slabs before the `n`-th. -/
theorem pieces_agree (n : ℕ) (hn : n ≤ k0_t1_loop.trips) :
    (∀ p ∈ (pb_k0_t1 (F := F) 𝒱 c bd i arg2 harg2 arg3 harg3 arg4 harg4 arg5 harg5 X2 X5 n).1, ∀ x,
      p.2 x = blockCodes (arg2.view.read (Elt F) X2) (arg5.view.read (Elt F) X5) (p.1.emb x))
    ∧ ∀ p ∈ (pb_k0_t1 (F := F) 𝒱 c bd i arg2 harg2 arg3 harg3 arg4 harg4 arg5 harg5 X2 X5 n).2, ∀ x,
      p.2 x = blockScale (arg2.view.read (Elt F) X2) (arg5.view.read (Elt F) X5) (p.1.emb x) := by
  induction n with
  | zero => exact ⟨List.forall_mem_nil _, List.forall_mem_nil _⟩
  | succ n ih =>
    obtain ⟨ih1, ih2⟩ := ih (Nat.le_of_succ_le hn)
    have e := pb_k0_t1_succ (F := F) 𝒱 c bd i arg2 harg2 arg3 harg3 arg4 harg4 arg5 harg5 X2 X5 ⟨n, hn⟩
    rw [e]
    constructor
    · intro p hp
      rcases List.mem_append.mp hp with hp | hp
      · exact trip_codes 𝒱 c bd i arg2 harg2 arg3 harg3 arg4 harg4 arg5 harg5 X2 X5 ⟨n, hn⟩ p hp
      · exact ih1 p hp
    · intro p hp
      rcases List.mem_append.mp hp with hp | hp
      · exact trip_scale 𝒱 c bd i arg2 harg2 arg3 harg3 arg4 harg4 arg5 harg5 X2 X5 ⟨n, hn⟩ p hp
      · exact ih2 p hp

end Trip

end Cert.KernelIdeal.Trip

end
-- ==== Proof.Fold.lean ====
/- What the two output blocks of each grid point hold, and so what the two result arrays hold.

   The first grid point stores the selection matrix in a scratch buffer and every later point finds it
   there, so at every point the blocks are `blockCodes` and `blockScale` of the point's input block and
   the same selection matrix. Nothing here depends on what a float is. -/
module

public import proofs.«01_k».proof.Proof.Trip

@[expose] public section

set_option maxRecDepth 16384

noncomputable section

namespace Cert.KernelIdeal.Fold

open Cert.KernelIdeal Cert.KernelIdeal.Gen Cert.KernelIdeal.Trip Idealize.ShloMosaic Idealize.ShloMosaic.TcCoe
  Idealize.SL.Sem

variable {F : FTy → Type} [FloatOps F]

section Body

variable (c : Dev nD) (i : grid0.Coords)
  (arg2 : Memref sig .tc .vmem S1x512x4608 .bf16) (harg2 : arg2.IsWhole)
  (arg3 : Memref sig .tc .vmem S1x512x2304 .fp8e4m3) (harg3 : arg3.IsWhole)
  (arg4 : Memref sig .tc .vmem S1x18x512 .f32) (harg4 : arg4.IsWhole)
  (arg5 : Memref sig .tc .vmem S256x256 .bf16) (harg5 : arg5.IsWhole)

/-- The loop of the body runs twice. -/
theorem trips_eq : Scf.trips 0#32 (Scalar.addi 0#32 2#32) 1#32 ≤ k0_t1_loop.trips := le_rfl

/-- The block of codes after a pass that finds the selection matrix in the scratch buffer. -/
theorem outB_codes (hc0 : _) (x0 : Vec F S1x512x4608 .bf16) (s : Vec F S256x256 .bf16) :
    out0_B_1 c i arg2 harg2 arg3 harg3 arg4 harg4 arg5 harg5 hc0 x0 s = blockCodes x0 s := by
  funext y
  refine View.read_writes_apply_of_pieces _ _ _ _ ?_ y
    (cover0_B_1 c i arg2 harg2 arg3 harg3 arg4 harg4 arg5 harg5 hc0 x0 s y)
  unfold kernelRun0_B
  dsimp only
  have h := (pieces_agree (F := F) Variants.none c none i arg2 harg2 arg3 harg3 arg4 harg4 arg5 harg5
    (harg2.unread x0) (harg5.unread s) _ trips_eq).1
  rw [harg2.read_unread, harg5.read_unread] at h
  exact h

/-- The block of scales after a pass that finds the selection matrix in the scratch buffer. -/
theorem outB_scale (hc0 : _) (x0 : Vec F S1x512x4608 .bf16) (s : Vec F S256x256 .bf16) :
    out0_B_2 c i arg2 harg2 arg3 harg3 arg4 harg4 arg5 harg5 hc0 x0 s = blockScale x0 s := by
  funext y
  refine View.read_writes_apply_of_pieces _ _ _ _ ?_ y
    (cover0_B_2 c i arg2 harg2 arg3 harg3 arg4 harg4 arg5 harg5 hc0 x0 s y)
  unfold kernelRun0_B
  dsimp only
  have h := (pieces_agree (F := F) Variants.none c none i arg2 harg2 arg3 harg3 arg4 harg4 arg5 harg5
    (harg2.unread x0) (harg5.unread s) _ trips_eq).2
  rw [harg2.read_unread, harg5.read_unread] at h
  exact h

/-- A buffer written whole with the selection matrix reads back as the selection matrix. -/
theorem read_selection (v : View sig .tc .vmem S256x256 .bf16) (f : BufTy.Contents (Elt F) v.ty) :
    v.read (Elt F) (v.writes (Elt F) f (kernelRun0_A.sl.HS0_1 (F := F))) = k0_pay1 := by
  funext y
  refine View.read_writes_apply_of_pieces v f k0_pay1 _ ?_ y ?_
  · unfold kernelRun0_A.sl.HS0_1
    simp only [List.forall_mem_cons]
    refine ⟨fun x => congrArg k0_pay1 (funext fun a => Fin.ext ?_), List.forall_mem_nil _⟩
    match a with
    | ⟨0, _⟩ => show (x 0).val = 0 + 1 * (x 0).val; omega
    | ⟨1, _⟩ => show (x 1).val = 0 + 1 * (x 1).val; omega
  · unfold kernelRun0_A.sl.HS0_1
    refine ⟨_, List.mem_singleton.mpr rfl, ?_⟩
    rw [Rect.mem_set_unit]
    intro a
    match a with
    | ⟨0, _⟩ => exact ⟨Nat.zero_le _, (y 0).isLt⟩
    | ⟨1, _⟩ => exact ⟨Nat.zero_le _, (y 1).isLt⟩

/-- The scratch buffer after the pass that fills it. -/
theorem soutA (hc0 : _) (x0 : Vec F S1x512x4608 .bf16) :
    sout0_A_0 c i arg2 harg2 arg3 harg3 arg4 harg4 arg5 harg5 hc0 x0 = k0_pay1 := by
  unfold sout0_A_0 kernelRun0_A
  dsimp only
  exact read_selection _ _

/-- The block of codes after the pass that fills the scratch buffer. -/
theorem outA_codes (hc0 : _) (x0 : Vec F S1x512x4608 .bf16) :
    out0_A_1 c i arg2 harg2 arg3 harg3 arg4 harg4 arg5 harg5 hc0 x0 = blockCodes x0 k0_pay1 := by
  funext y
  refine View.read_writes_apply_of_pieces _ _ _ _ ?_ y
    (cover0_A_1 c i arg2 harg2 arg3 harg3 arg4 harg4 arg5 harg5 hc0 x0 y)
  unfold kernelRun0_A
  dsimp only
  have h := (pieces_agree (F := F) Variants.none c none i arg2 harg2 arg3 harg3 arg4 harg4 arg5 harg5
    (harg2.unread x0) (arg5.view.writes (Elt F) arg5.view.junk kernelRun0_A.sl.HS0_1) _ trips_eq).1
  rw [harg2.read_unread, read_selection] at h
  exact h

/-- The block of scales after the pass that fills the scratch buffer. -/
theorem outA_scale (hc0 : _) (x0 : Vec F S1x512x4608 .bf16) :
    out0_A_2 c i arg2 harg2 arg3 harg3 arg4 harg4 arg5 harg5 hc0 x0 = blockScale x0 k0_pay1 := by
  funext y
  refine View.read_writes_apply_of_pieces _ _ _ _ ?_ y
    (cover0_A_2 c i arg2 harg2 arg3 harg3 arg4 harg4 arg5 harg5 hc0 x0 y)
  unfold kernelRun0_A
  dsimp only
  have h := (pieces_agree (F := F) Variants.none c none i arg2 harg2 arg3 harg3 arg4 harg4 arg5 harg5
    (harg2.unread x0) (arg5.view.writes (Elt F) arg5.view.junk kernelRun0_A.sl.HS0_1) _ trips_eq).2
  rw [harg2.read_unread, read_selection] at h
  exact h

end Body

section Points

variable (m : (ℓ : Loc nD τ sig) → Buf (Elt F) ℓ) (c : Dev nD)

/-- The scratch buffer holds the selection matrix after every grid point. -/
theorem scratch_eq (n : ℕ) (hn : n < cfg0.N) : (outsAt0 m c n hn).2.2 = k0_pay1 := by
  have hN := lt_of_lt_of_eq hn (show cfg0.N = 72 from N_0)
  induction n with
  | zero =>
    rw [outsAt0_A m c ⟨0, hn⟩ rfl]
    dsimp only
    apply soutA
  | succ n ih =>
    rw [outsAt0_B m c ⟨n + 1, hn⟩ (by show ¬(n + 1) % 72 = 0; omega)]
    exact ih (Nat.lt_of_succ_lt hn) (by omega)

/-- After grid point `n` the block of codes is `blockCodes` of the point's input block. -/
theorem codes_eq (n : ℕ) (hn : n < cfg0.N) :
    (outsAt0 m c n hn).1 = blockCodes (iblk m c 0 ⟨n, hn⟩) k0_pay1 := by
  have hN := lt_of_lt_of_eq hn (show cfg0.N = 72 from N_0)
  by_cases h0 : n % 72 = 0
  · rw [outsAt0_A m c ⟨n, hn⟩ h0]
    dsimp only
    apply outA_codes
  · rw [outsAt0_B m c ⟨n, hn⟩ h0]
    dsimp only
    rw [scratch_eq]
    apply outB_codes

/-- After grid point `n` the block of scales is `blockScale` of the point's input block. -/
theorem scale_eq (n : ℕ) (hn : n < cfg0.N) :
    (outsAt0 m c n hn).2.1 = blockScale (iblk m c 0 ⟨n, hn⟩) k0_pay1 := by
  have hN := lt_of_lt_of_eq hn (show cfg0.N = 72 from N_0)
  by_cases h0 : n % 72 = 0
  · rw [outsAt0_A m c ⟨n, hn⟩ h0]
    dsimp only
    apply outA_scale
  · rw [outsAt0_B m c ⟨n, hn⟩ h0]
    dsimp only
    rw [scratch_eq]
    apply outB_scale

end Points

/-! ## The two result arrays -/

/-- The window of the input array that a group reads: batch `b`, the `p`-th run of 256 tokens, the `j`-th run
of 256 interleaved columns. -/
def arrWindow (A : Vec F S9x4096x4608 .bf16) (b : Fin 9) (p : Fin 16) (j : Fin 18) : Vec F S1x256x256 .bf16 := fun z =>
  A fun a => match a with
    | ⟨0, _⟩ => b
    | ⟨1, _⟩ => ⟨256 * p.val + (z 1).val, by
        have h1 : (z 1).val < 256 := (z 1).isLt
        show 256 * p.val + (z 1).val < 4096
        omega⟩
    | ⟨2, _⟩ => ⟨256 * j.val + (z 2).val, by
        have h2 : (z 2).val < 256 := (z 2).isLt
        show 256 * j.val + (z 2).val < 4608
        omega⟩

/-- The whole array of codes: each element is the one its group stores. -/
def arrCodes (A : Vec F S9x4096x4608 .bf16) : Vec F S9x4096x2304 .fp8e4m3 := fun y =>
  have h1 : (y 1).val < 4096 := (y 1).isLt
  have h2 : (y 2).val < 2304 := (y 2).isLt
  groupCodes (arrWindow A (y 0) ⟨(y 1).val / 256, by omega⟩ ⟨(y 2).val / 128, by omega⟩) k0_pay1 fun a => match a with
    | ⟨0, _⟩ => ⟨0, Nat.zero_lt_one⟩
    | ⟨1, _⟩ => ⟨(y 1).val % 256, Nat.mod_lt _ (by decide)⟩
    | ⟨2, _⟩ => ⟨(y 2).val % 128, Nat.mod_lt _ (by decide)⟩

/-- The whole array of scales: each element is the one its group stores. -/
def arrScale (A : Vec F S9x4096x4608 .bf16) : Vec F S9x18x4096 .f32 := fun y =>
  have h2 : (y 2).val < 4096 := (y 2).isLt
  groupScale (arrWindow A (y 0) ⟨(y 2).val / 256, by omega⟩ (y 1)) k0_pay1 fun a => match a with
    | ⟨0, _⟩ => ⟨0, Nat.zero_lt_one⟩
    | ⟨1, _⟩ => ⟨0, Nat.zero_lt_one⟩
    | ⟨2, _⟩ => ⟨(y 2).val % 256, Nat.mod_lt _ (by decide)⟩

section Arrays

variable (m : (ℓ : Loc nD τ sig) → Buf (Elt F) ℓ) (c : Dev nD)

/-- Grid point `t` is given batch `t / 8` and the `t % 8`-th run of 512 tokens. -/
theorem in_index : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- A slab's window of a grid point's input block is a window of the input array. -/
theorem window_iblk (t : Fin cfg0.N) (q : Fin 2) (j : Fin 18) (b : Fin 9) (p : Fin 16) (hb : b.val = t.val / 8)
    (hp : p.val = 2 * (t.val % 8) + q.val) :
    window (iblk m c 0 t) q j = arrWindow (m ((c : Thread nD τ).loc main_arg0)) b p j := by
  obtain ⟨e0, e1, e2⟩ := in_index t
  funext z
  have h : ∀ (y : S1x512x4608.Idx), iblk m c 0 t y = V m c main_arg0 (((cfg0.win 0).blk t).view.emb y) := fun y => rfl
  unfold window arrWindow
  rw [h, V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * (256 * q.val + (z 1).val) = 256 * p.val + (z 1).val; omega
  | ⟨2, _⟩ => show win0_0.index t (2 : Fin 3) * 4608 + 1 * (256 * j.val + (z 2).val) = 256 * j.val + (z 2).val; omega

/-- The array of codes the kernel leaves. -/
theorem G1_eq : Value.G1 m c = arrCodes (m ((c : Thread nD τ).loc main_arg0)) := by
  funext i
  have h0 : (i 0).val < 9 := (i 0).isLt
  have h1 : (i 1).val < 4096 := (i 1).isLt
  have h2 : (i 2).val < 2304 := (i 2).isLt
  have hN : cfg0.N = 72 := N_0
  have ht : Value.pt1Of i < cfg0.N := by
    show 8 * ((i 0).val / 1 - 0) + 1 * ((i 1).val / 512 - 0) + 1 * ((i 2).val / 2304 - 0) < cfg0.N
    omega
  have hv : Value.pt1Of i = 8 * (i 0).val + (i 1).val / 512 := by
    show 8 * ((i 0).val / 1 - 0) + 1 * ((i 1).val / 512 - 0) + 1 * ((i 2).val / 2304 - 0) = _
    omega
  unfold Value.G1
  rw [dif_pos ht, ← Value.outsAt0_sweep m c _ ht, codes_eq]
  unfold blockCodes arrCodes
  dsimp only
  rw [window_iblk m c ⟨Value.pt1Of i, ht⟩ _ _ (i 0) ⟨(i 1).val / 256, by omega⟩ (by show _ = Value.pt1Of i / 8; omega)
    (by show (i 1).val / 256 = 2 * (Value.pt1Of i % 8) + (i 1).val % 512 / 256; omega)]
  have e : (⟨(i 2).val % 2304 / 128, by omega⟩ : Fin 18) = ⟨(i 2).val / 128, by omega⟩ := Fin.ext (by
    show (i 2).val % 2304 / 128 = (i 2).val / 128; omega)
  rw [e]
  refine congrArg _ (funext fun a => Fin.ext ?_)
  match a with
  | ⟨0, _⟩ => rfl
  | ⟨1, _⟩ => show (i 1).val % 512 % 256 = (i 1).val % 256; omega
  | ⟨2, _⟩ => show (i 2).val % 2304 % 128 = (i 2).val % 128; omega

/-- The array of scales the kernel leaves. -/
theorem G2_eq : Value.G2 m c = arrScale (m ((c : Thread nD τ).loc main_arg0)) := by
  funext i
  have h0 : (i 0).val < 9 := (i 0).isLt
  have h1 : (i 1).val < 18 := (i 1).isLt
  have h2 : (i 2).val < 4096 := (i 2).isLt
  have hN : cfg0.N = 72 := N_0
  have ht : Value.pt2Of i < cfg0.N := by
    show 8 * ((i 0).val / 1 - 0) + 8 * ((i 1).val / 18 - 0) + 1 * ((i 2).val / 512 - 0) < cfg0.N
    omega
  have hv : Value.pt2Of i = 8 * (i 0).val + (i 2).val / 512 := by
    show 8 * ((i 0).val / 1 - 0) + 8 * ((i 1).val / 18 - 0) + 1 * ((i 2).val / 512 - 0) = _
    omega
  unfold Value.G2
  rw [dif_pos ht, ← Value.outsAt0_sweep m c _ ht, scale_eq]
  unfold blockScale arrScale
  dsimp only
  rw [window_iblk m c ⟨Value.pt2Of i, ht⟩ _ _ (i 0) ⟨(i 2).val / 256, by omega⟩ (by show _ = Value.pt2Of i / 8; omega)
    (by show (i 2).val / 256 = 2 * (Value.pt2Of i % 8) + (i 2).val % 512 / 256; omega)]
  have e : (⟨(i 1).val % 18, by omega⟩ : Fin 18) = i 1 := Fin.ext (by show (i 1).val % 18 = (i 1).val; omega)
  rw [e]
  refine congrArg _ (funext fun a => Fin.ext ?_)
  match a with
  | ⟨0, _⟩ => rfl
  | ⟨1, _⟩ => rfl
  | ⟨2, _⟩ => show (i 2).val % 512 % 256 = (i 2).val % 256; omega

end Arrays

end Cert.KernelIdeal.Fold

end
-- ==== Proof.Scale.lean ====
/-
  The two ways of finding a group's power-of-two scale agree, over the extended reals.
  The kernel finds the exponent field of `z = a · (1/448)` as the greatest `k` in 0 … 255 whose pattern `k << 23`, read as a float, is at most `z`, and builds the scale and its inverse as the patterns `(127 ± e) << 23`.
  The reference computes the exponent as ⌊log z / log 2⌋ + 1 and the scale and its inverse as powers of two.
  Both take exponent 0 where `z` is below the least normal number and where `a` is above the greatest finite one.
-/
module
public import Idealize.ShloMosaic.Lib.Pointwise
public import Idealize.ShloMosaic.Lib.IdealHost
public import Mathlib.Analysis.SpecialFunctions.Log.Basic
public import Mathlib.Analysis.SpecialFunctions.Pow.Real

@[expose] public section

set_option maxRecDepth 16384

noncomputable section

namespace Cert.Scale

open Idealize.ShloMosaic

/-! ## The constants -/

/-- The greatest finite f32. -/
theorem fltMax_eq : Ideal.ofBits .f32 0x7F7FFFFF#32 = ((16777215 * 2 ^ 104 : ℝ) : EReal) := by
  simp [Ideal.ofBits, Ideal.ieee, -EReal.coe_mul]

/-- The f32 nearest 1/448. -/
theorem rec_eq : Ideal.ofBits .f32 0x3B124925#32 = ((9586981 / 2 ^ 32 : ℝ) : EReal) := by
  simp [Ideal.ofBits, Ideal.ieee, -EReal.coe_mul]; norm_num

/-- The least normal f32. -/
theorem fltMin_eq : Ideal.ofBits .f32 0x00800000#32 = (((2 : ℝ) ^ (-126 : ℤ) : ℝ) : EReal) := by
  simp [Ideal.ofBits, Ideal.ieee, -EReal.coe_mul]; norm_num

/-- The f32 two. -/
theorem two_eq : Ideal.ofBits .f32 0x40000000#32 = ((2 : ℝ) : EReal) := by
  simp [Ideal.ofBits, Ideal.ieee, -EReal.coe_mul]; norm_num

/-- The f32 minus infinity. -/
theorem bot_eq : Ideal.ofBits .f32 0xFF800000#32 = (⊥ : EReal) := by
  simp [Ideal.ofBits, Ideal.ieee]

/-- The f32 minus one. -/
theorem negOne_eq : Ideal.ofBits .f32 0xBF800000#32 = ((-1 : ℝ) : EReal) := by
  simp [Ideal.ofBits, Ideal.ieee, -EReal.coe_mul, -EReal.coe_neg]; norm_num

/-! ## A pattern that holds an exponent field alone -/

/-- The float whose exponent field is `k` and whose other bits are zero. -/
def ofField (k : BitVec 32) : EReal := Ideal.ofBits .f32 (IntOp.shli .vector k 23#32)

theorem field_bits : ∀ k : Fin 256,
    (IntOp.shli .vector (BitVec.ofNat 32 k.val) 23#32).extractLsb' (8 + 23) 1 = 0#1
      ∧ ((IntOp.shli .vector (BitVec.ofNat 32 k.val) 23#32).extractLsb' 23 8).toNat = k.val
      ∧ ((IntOp.shli .vector (BitVec.ofNat 32 k.val) 23#32).extractLsb' 0 23).toNat = 0 := by
  decide +kernel

/-- Field 0 is zero. -/
theorem ofField_zero : ofField (BitVec.ofNat 32 0) = 0 := by
  obtain ⟨h1, h2, h3⟩ := field_bits 0
  simp only [Fin.val_zero] at h1 h2 h3
  simp only [ofField, Ideal.ofBits, Ideal.ieee, h1, h2, h3]
  simp

/-- Field 255 is infinity. -/
theorem ofField_top : ofField (BitVec.ofNat 32 255) = ⊤ := by
  obtain ⟨h1, h2, h3⟩ := field_bits 255
  simp only [show ((255 : Fin 256) : Nat) = 255 from rfl] at h1 h2 h3
  simp only [ofField, Ideal.ofBits, Ideal.ieee, h1, h2, h3]
  simp

/-- A positive pattern with fraction 0 and exponent field `k` from 1 to 254 is two to the `k - 127`. -/
theorem ieee_pow (w : BitVec 32) (k : Nat) (h0 : 1 ≤ k) (h1 : k ≤ 254) (b1 : w.extractLsb' (8 + 23) 1 = 0#1)
    (b2 : (w.extractLsb' 23 8).toNat = k) (b3 : (w.extractLsb' 0 23).toNat = 0) :
    Ideal.ieee 8 23 w = (((2 : ℝ) ^ ((k : ℤ) - 127) : ℝ) : EReal) := by
  have e : ((k : ℤ) - (2 ^ (8 - 1) - 1) - (23 : ℕ)) = ((k : ℤ) - 127) + (-23) := by norm_num; ring
  have e' : (2 : ℝ) ^ ((k : ℤ) - (2 ^ (8 - 1) - 1) - (23 : ℕ)) = (2 : ℝ) ^ ((k : ℤ) - 127) * (2 : ℝ) ^ (-23 : ℤ) := by
    rw [e, zpow_add₀ (by norm_num : (2 : ℝ) ≠ 0)]
  unfold Ideal.ieee
  simp only [b1, b2, b3]
  rw [if_neg (by omega), if_neg (by omega), e', EReal.coe_eq_coe_iff]
  have e'' : (2 : ℝ) ^ (-23 : ℤ) * 8388608 = 1 := by norm_num
  norm_num
  linear_combination (2 : ℝ) ^ ((k : ℤ) - 127) * e''

/-- Field `k` from 1 to 254 is two to the `k - 127`. -/
theorem ofField_mid (k : Nat) (h0 : 1 ≤ k) (h1 : k ≤ 254) :
    ofField (BitVec.ofNat 32 k) = (((2 : ℝ) ^ ((k : ℤ) - 127) : ℝ) : EReal) := by
  obtain ⟨b1, b2, b3⟩ := field_bits ⟨k, by omega⟩
  exact ieee_pow _ k h0 h1 b1 b2 b3

/-! ## The integer logarithm -/

/-- The base-two logarithm, rounded down. -/
def lg (z : ℝ) : ℤ := ⌊Real.log z / Real.log 2⌋

/-- A power of two is at most `z` just where its exponent is at most `lg z`. -/
theorem zpow_le_iff (z : ℝ) (hz : 0 < z) (n : ℤ) : (2 : ℝ) ^ n ≤ z ↔ n ≤ lg z := by
  have l2 : 0 < Real.log 2 := Real.log_pos (by norm_num)
  rw [lg, Int.le_floor, le_div_iff₀ l2, ← Real.log_zpow, Real.log_le_log_iff (by positivity) hz]

/-- `z` is below a power of two just where `lg z` is below its exponent. -/
theorem lt_zpow_iff (z : ℝ) (hz : 0 < z) (n : ℤ) : z < (2 : ℝ) ^ n ↔ lg z < n := by
  rw [← not_le, ← not_le, zpow_le_iff z hz]

/-! ## The greatest field at most `z` -/

/-- The greatest `k` in 0 … 255 whose float is at most `z`. -/
def search (z : EReal) : BitVec 32 :=
  Finset.fold IntOp.maxsi 2147483648#32 (fun k : Fin 256 => if ofField (BitVec.ofNat 32 k.val) ≤ z then BitVec.ofNat 32 k.val else 0#32) Finset.univ

/-- The signed maximum, read as integers. -/
theorem toInt_maxsi (x y : BitVec 32) : (IntOp.maxsi x y).toInt = max x.toInt y.toInt := by
  unfold IntOp.maxsi
  split
  · rename_i h
    rw [BitVec.slt_iff_toInt_lt] at h
    omega
  · rename_i h
    rw [BitVec.slt_iff_toInt_lt] at h
    omega

theorem toInt_field (k : Nat) (h : k < 256) : (BitVec.ofNat 32 k).toInt = k := by
  rw [BitVec.toInt_ofNat', Int.bmod_eq_of_le] <;> omega

/-- A field whose float is at most `z`, or 0, every greater field's float being above `z`, is what the search finds. -/
theorem search_eq (z : EReal) (n : Nat) (hn : n < 256) (hle : n = 0 ∨ ofField (BitVec.ofNat 32 n) ≤ z)
    (hgt : ∀ k : Nat, n < k → k < 256 → ¬ ofField (BitVec.ofNat 32 k) ≤ z) : search z = BitVec.ofNat 32 n := by
  apply BitVec.eq_of_toInt_eq
  unfold search
  rw [← Finset.fold_hom (op' := max) toInt_maxsi, toInt_field n hn]
  apply le_antisymm
  · rw [Finset.fold_max_le]
    refine ⟨le_trans (by decide) (Int.natCast_nonneg n), fun k _ => ?_⟩
    split
    · rename_i h
      rw [toInt_field _ k.isLt]
      by_contra hc
      exact hgt k.val (by omega) k.isLt h
    · simp
  · rw [Finset.le_fold_max]
    refine Or.inr ⟨⟨n, hn⟩, Finset.mem_univ _, ?_⟩
    split
    · rw [toInt_field _ hn]
    · rename_i h
      rcases hle with rfl | h'
      · simp
      · exact absurd h' h

/-- Below the least normal number the field is 0. -/
theorem search_small (z : ℝ) (hz : z < (2 : ℝ) ^ (-126 : ℤ)) : search (z : EReal) = BitVec.ofNat 32 0 := by
  refine search_eq _ 0 (by omega) (Or.inl rfl) fun k h0 h1 => ?_
  rcases Nat.lt_or_ge k 255 with hk | hk
  · rw [ofField_mid k (by omega) (by omega), EReal.coe_le_coe_iff, not_le]
    exact hz.trans_le (zpow_le_zpow_right₀ (by norm_num) (by omega))
  · rw [show k = 255 by omega, ofField_top]; simp

/-- From the least normal number on, below 2 ^ 127, the field is ⌊log₂ z⌋ + 127. -/
theorem search_normal (z : ℝ) (hz : (2 : ℝ) ^ (-126 : ℤ) ≤ z) (n : Nat) (hn : (n : ℤ) = lg z + 127) (h1 : 1 ≤ n)
    (h2 : n ≤ 254) : search (z : EReal) = BitVec.ofNat 32 n := by
  have hz0 : 0 < z := lt_of_lt_of_le (by positivity) hz
  refine search_eq _ n (by omega) (Or.inr ?_) fun k h0 hk1 => ?_
  · rw [ofField_mid n h1 h2, EReal.coe_le_coe_iff, show (n : ℤ) - 127 = lg z by omega]
    exact (zpow_le_iff z hz0 _).mpr le_rfl
  · rcases Nat.lt_or_ge k 255 with hk | hk
    · rw [ofField_mid k (by omega) (by omega), EReal.coe_le_coe_iff, not_le]
      exact (lt_zpow_iff z hz0 _).mpr (by omega)
    · rw [show k = 255 by omega, ofField_top]; simp

/-! ## The two exponents -/

/-- The kernel's exponent field of a group whose greatest magnitude is `a`. -/
def field (a : EReal) : BitVec 32 :=
  if Ideal.ofBits .f32 0x7F7FFFFF#32 < a then 255#32 else search (a * Ideal.ofBits .f32 0x3B124925#32)

/-- The kernel's exponent: the field less 126, or 0 where the field is 0 or 255. -/
def kexp (a : EReal) : BitVec 32 :=
  Scalar.select (IntOp.ori (IntOp.cmpi .eq (field a) 0#32) (IntOp.cmpi .eq (field a) 255#32)) 0#32 (IntOp.subi (field a) 126#32)

/-- The kernel's scale. -/
def kscale (a : EReal) : EReal := ofField (IntOp.addi 127#32 (kexp a))

/-- The kernel's inverse scale. -/
def kinv (a : EReal) : EReal := ofField (IntOp.subi 127#32 (kexp a))

/-- The reference's exponent. -/
def rexp (a : EReal) : EReal :=
  Scalar.select (IntOp.ori (BitVec.ofBool (decide (a = 0))) (BitVec.ofBool (decide (Ideal.ofBits .f32 0x7F7FFFFF#32 < a)))) 0
    (if a * Ideal.ofBits .f32 0x3B124925#32 < Ideal.ofBits .f32 0x00800000#32 then 0
      else Ideal.liftRound Int.floor
        (Ideal.div (Ideal.log (a * Ideal.ofBits .f32 0x3B124925#32)) (Ideal.log (Ideal.ofBits .f32 0x40000000#32))) + 1)

/-- The reference's scale. -/
def rscale (a : EReal) : EReal := Ideal.pow (Ideal.ofBits .f32 0x40000000#32) (rexp a)

/-- The reference's inverse scale. -/
def rinv (a : EReal) : EReal := Ideal.pow (Ideal.ofBits .f32 0x40000000#32) (-rexp a)

/-- Two to an integer power. -/
theorem pow_two (e : ℤ) : Ideal.pow ((2 : ℝ) : EReal) (((e : ℝ)) : EReal) = (((2 : ℝ) ^ e : ℝ) : EReal) := by
  show ((Real.rpow 2 (e : ℝ) : ℝ) : EReal) = _
  rw [Real.rpow_eq_pow, Real.rpow_intCast]

/-- The quotient of the logarithms, rounded down, is the integer logarithm. -/
theorem floor_log (z : ℝ) (hz : 0 < z) :
    Ideal.liftRound Int.floor (Ideal.div (Ideal.log (z : EReal)) (Ideal.log (Ideal.ofBits .f32 0x40000000#32)))
      = (((lg z : ℤ) : ℝ) : EReal) := by
  have l2 : Real.log 2 ≠ 0 := (Real.log_pos (by norm_num)).ne'
  rw [two_eq]
  have e1 : Ideal.log (z : EReal) = ((Real.log z : ℝ) : EReal) := by
    show (if z ≤ 0 then (⊥ : EReal) else _) = _
    rw [if_neg (not_le.mpr hz)]
  have e2 : Ideal.log ((2 : ℝ) : EReal) = ((Real.log 2 : ℝ) : EReal) := by
    show (if (2 : ℝ) ≤ 0 then (⊥ : EReal) else _) = _
    rw [if_neg (by norm_num)]
  rw [e1, e2]
  have e3 : Ideal.div ((Real.log z : ℝ) : EReal) ((Real.log 2 : ℝ) : EReal) = ((Real.log z / Real.log 2 : ℝ) : EReal) := by
    unfold Ideal.div
    rw [if_neg (by exact_mod_cast l2), ← EReal.coe_inv, ← EReal.coe_mul]
    rfl
  rw [e3]
  rfl

/-- The two exponents are the same integer, and that integer is small enough for both patterns to be normal numbers. -/
theorem exp_eq (a : EReal) (ha : 0 ≤ a) :
    ∃ e : ℤ, -125 ≤ e ∧ e ≤ 126 ∧ rexp a = ((e : ℝ) : EReal)
      ∧ IntOp.addi 127#32 (kexp a) = BitVec.ofNat 32 (127 + e).toNat
      ∧ IntOp.subi 127#32 (kexp a) = BitVec.ofNat 32 (127 - e).toNat := by
  by_cases hbig : Ideal.ofBits .f32 0x7F7FFFFF#32 < a
  · refine ⟨0, by norm_num, by norm_num, ?_, ?_, ?_⟩
    · rw [rexp, Scalar.select, if_pos]
      · simp
      · rw [decide_eq_true hbig]
        cases decide (a = 0) <;> decide
    · simp [kexp, field, hbig, Scalar.select, IntOp.ori, IntOp.cmpi, IntOp.addi]
    · simp [kexp, field, hbig, Scalar.select, IntOp.ori, IntOp.cmpi, IntOp.subi]
  · obtain ⟨r, rfl⟩ : ∃ r : ℝ, a = (r : EReal) := by
      rw [fltMax_eq] at hbig
      induction a with
      | bot => simp at ha
      | top => exact absurd (EReal.coe_lt_top _) hbig
      | coe r => exact ⟨r, rfl⟩
    have hr0 : 0 ≤ r := by exact_mod_cast ha
    have hr1 : r ≤ 16777215 * 2 ^ 104 := by
      rw [fltMax_eq, not_lt] at hbig
      exact_mod_cast hbig
    have hz : (r : EReal) * Ideal.ofBits .f32 0x3B124925#32 = ((r * (9586981 / 2 ^ 32) : ℝ) : EReal) := by
      rw [rec_eq, ← EReal.coe_mul]
    have hf : field (r : EReal) = search ((r * (9586981 / 2 ^ 32) : ℝ) : EReal) := by
      rw [field, if_neg hbig, hz]
    have hz1 : r * (9586981 / 2 ^ 32) < (2 : ℝ) ^ (120 : ℤ) := by
      have : r * (9586981 / 2 ^ 32) ≤ 16777215 * 2 ^ 104 * (9586981 / 2 ^ 32) :=
        mul_le_mul_of_nonneg_right hr1 (by positivity)
      refine this.trans_lt ?_
      norm_num
    generalize hzz : r * (9586981 / 2 ^ 32) = z at hz hf hz1
    by_cases hsmall : z < (2 : ℝ) ^ (-126 : ℤ)
    · have hk : field (r : EReal) = 0#32 := by rw [hf, search_small z hsmall]
      refine ⟨0, by norm_num, by norm_num, ?_, ?_, ?_⟩
      · have : ((z : ℝ) : EReal) < Ideal.ofBits .f32 0x00800000#32 := by
          rw [fltMin_eq, EReal.coe_lt_coe_iff]; exact hsmall
        simp [rexp, hz, this, Scalar.select]
      · simp [kexp, hk, Scalar.select, IntOp.ori, IntOp.cmpi, IntOp.addi]
      · simp [kexp, hk, Scalar.select, IntOp.ori, IntOp.cmpi, IntOp.subi]
    · have hge : (2 : ℝ) ^ (-126 : ℤ) ≤ z := not_lt.mp hsmall
      have hz0 : 0 < z := lt_of_lt_of_le (by positivity) hge
      have hl1 : -126 ≤ lg z := (zpow_le_iff z hz0 _).mp hge
      have hl2 : lg z < 120 := (lt_zpow_iff z hz0 _).mp hz1
      generalize hn : (lg z + 127).toNat = n
      have hn' : (n : ℤ) = lg z + 127 := by omega
      have hk : field (r : EReal) = BitVec.ofNat 32 n := by
        rw [hf, search_normal z hge n hn' (by omega) (by omega)]
      have hkk : kexp (r : EReal) = BitVec.ofNat 32 n - 126#32 := by
        have c1 : ¬ BitVec.ofNat 32 n = 0#32 := fun h => by
          have := congrArg BitVec.toNat h
          simp only [BitVec.toNat_ofNat] at this
          omega
        have c2 : ¬ BitVec.ofNat 32 n = 255#32 := fun h => by
          have := congrArg BitVec.toNat h
          simp only [BitVec.toNat_ofNat] at this
          omega
        rw [kexp, hk, Scalar.select, if_neg]
        · rfl
        · simp only [IntOp.cmpi, beq_eq_false_iff_ne.mpr c1, beq_eq_false_iff_ne.mpr c2]
          decide
      refine ⟨lg z + 1, by omega, by omega, ?_, ?_, ?_⟩
      · have h1 : ¬ ((z : ℝ) : EReal) < Ideal.ofBits .f32 0x00800000#32 := by
          rw [fltMin_eq, EReal.coe_lt_coe_iff]; exact hsmall
        have h2 : ¬ (r : EReal) = 0 := fun h => by
          have : r = 0 := by exact_mod_cast h
          rw [this, zero_mul] at hzz
          exact hz0.ne hzz
        simp only [rexp, hz, h1, h2, hbig, if_false, decide_false, floor_log z hz0]
        rw [Scalar.select, if_neg (by decide)]
        push_cast
        rfl
      · rw [hkk]
        apply BitVec.eq_of_toNat_eq
        simp only [IntOp.addi, BitVec.toNat_add, BitVec.toNat_sub, BitVec.toNat_ofNat]
        omega
      · rw [hkk]
        apply BitVec.eq_of_toNat_eq
        simp only [IntOp.subi, BitVec.toNat_sub, BitVec.toNat_ofNat]
        omega

/-- The kernel's scale of a group is the reference's. -/
theorem scale_eq (a : EReal) (ha : 0 ≤ a) : kscale a = rscale a := by
  obtain ⟨e, h0, h1, h2, h3, h4⟩ := exp_eq a ha
  rw [kscale, rscale, h2, h3, two_eq, pow_two, ofField_mid _ (by omega) (by omega)]
  congr 2
  omega

/-- The kernel's inverse scale of a group is the reference's. -/
theorem inv_eq (a : EReal) (ha : 0 ≤ a) : kinv a = rinv a := by
  obtain ⟨e, h0, h1, h2, h3, h4⟩ := exp_eq a ha
  rw [kinv, rinv, h2, h4, two_eq, ← EReal.coe_neg, ← Int.cast_neg, pow_two, ofField_mid _ (by omega) (by omega)]
  congr 2
  omega

end Cert.Scale

end
-- ==== Proof.Group.lean ====
/-
  What the kernel computes for one group of one tile, over the extended reals, in terms of the tile's elements.
  Multiplying the tile by the selection matrix picks out, with a minus sign, the even and the odd columns: the gates and the ups.
-/
module
public import proofs.«01_k».proof.Proof.Trip
public import proofs.«01_k».proof.Proof.Scale
public import Idealize.ShloMosaic.Lib.Pointwise

@[expose] public section

set_option maxRecDepth 16384

noncomputable section

namespace Cert.KernelIdeal.Group

open Cert.KernelIdeal Cert.KernelIdeal.Gen Idealize.ShloMosaic Idealize.ShloMosaic.TcCoe Idealize.SL.Sem

/-! ## The selection matrix -/

/-- The column that row `r` of the selection matrix picks: the even columns first, then the odd ones. -/
def col (r : Nat) : Nat := if r < 128 then 2 * r else 2 * (r - 128) + 1

/-- The kernel's arithmetic for that column. -/
theorem col_bits : ∀ r : Fin 256,
    Scalar.select (IntOp.cmpi CmpIPredicate.slt (BitVec.ofNat 32 r.val) 128#32)
        (IntOp.muli (2#32) (BitVec.ofNat 32 r.val))
        (IntOp.addi (IntOp.muli (2#32) (IntOp.subi (BitVec.ofNat 32 r.val) 128#32)) 1#32)
      = BitVec.ofNat 32 (col r.val) := by
  decide +kernel

/-- The selection matrix at an index: minus one in the picked column, zero elsewhere. -/
theorem sel_apply (r k : Fin 256) :
    k0_pay1 (F := Ideal) (ix2 r k) = if k.val = col r.val then ((-1 : ℝ) : EReal) else 0 := by
  unfold_payloads
  pointwise
  rw [col_bits, Scale.negOne_eq]
  have hc : col r.val < 256 := by unfold col; split <;> omega
  by_cases h : k.val = col r.val
  · rw [if_pos h, h, Scalar.select, if_pos (by simp [IntOp.cmpi])]
  · rw [if_neg h, Scalar.select, if_neg]
    have : ¬ BitVec.ofNat 32 k.val = BitVec.ofNat 32 (col r.val) := fun e => by
      have e' := congrArg BitVec.toNat e
      simp only [BitVec.toNat_ofNat] at e'
      omega
    simp only [IntOp.cmpi, beq_eq_false_iff_ne.mpr this]
    decide

/-- A row of the selection matrix times a vector is minus the picked element. -/
theorem sel_sum (r p : Fin 256) (hp : p.val = col r.val) (x : Fin 256 → EReal) :
    ∑ k : Fin 256, k0_pay1 (F := Ideal) (ix2 r k) * x k = -x p := by
  rw [Finset.sum_eq_single p]
  · rw [sel_apply, if_pos hp, EReal.coe_neg, EReal.coe_one, neg_mul, one_mul]
  · intro k _ hk
    rw [sel_apply, if_neg (fun h => hk (Fin.ext (h.trans hp.symm))), zero_mul]
  · intro h
    exact absurd (Finset.mem_univ _) h

/-! ## The group's values -/

/-- The activation of a gate and an up: gate · sigmoid(gate) · up. -/
def act (g u : EReal) : EReal := g * Ideal.div 1 (1 + Ideal.exp (-g)) * u

/-- The activation at lane `t` of token `j` of a tile. -/
def val (x : Vec Ideal S1x256x256 .bf16) (j : Fin 256) (t : Fin 128) : EReal :=
  act (x (ix3 0 j ⟨2 * t.val, by omega⟩)) (x (ix3 0 j ⟨1 + 2 * t.val, by omega⟩))

/-- The greatest magnitude among 128 values. -/
def peak (v : Fin 128 → EReal) : EReal :=
  Finset.fold max (Ideal.ofBits .f32 4286578688#32) (fun t => FloatOps.absf (F := Ideal) (φ := .f32) (v t)) Finset.univ

/-- The greatest magnitude is not negative. -/
theorem peak_nonneg (v : Fin 128 → EReal) : 0 ≤ peak v := by
  unfold peak
  rw [Finset.le_fold_max]
  refine Or.inr ⟨0, Finset.mem_univ _, ?_⟩
  show (0 : EReal) ≤ max (v 0) (-(v 0))
  rcases le_total 0 (v 0) with h | h
  · exact le_max_of_le_left h
  · exact le_max_of_le_right (EReal.neg_nonneg.mpr h)

/-- The kernel's activation of a tile, lanes first. -/
theorem pay4_apply (x : Vec Ideal S1x256x256 .bf16) (t : Fin 128) (j : Fin 256) :
    k0_pay4 (F := Ideal) x (k0_pay1 (F := Ideal)) (ix2 t j) = val x j t := by
  unfold k0_pay4
  pointwise
  rw [sel_sum ⟨t.val, by omega⟩ ⟨2 * t.val, by omega⟩ (by simp [col]) (fun k => x (ix3 0 j k)),
    sel_sum ⟨128 + t.val, by omega⟩ ⟨1 + 2 * t.val, by omega⟩ (by simp [col]; omega) (fun k => x (ix3 0 j k))]
  unfold val act
  rw [neg_mul, neg_mul, mul_neg, neg_neg]

/-- The kernel's exponent field of token `j`. -/
theorem pay5_apply (x : Vec Ideal S1x256x256 .bf16) (j : Fin 256) :
    k0_pay5 (F := Ideal) x (k0_pay1 (F := Ideal)) (ix2 0 j) = Scale.field (peak (val x j)) := by
  unfold k0_pay5
  pointwise
  simp only [pay4_apply]
  rfl

/-- The guard of token `j`: its field is 0 or 255. -/
theorem pay6_apply (x : Vec Ideal S1x256x256 .bf16) (j : Fin 256) :
    k0_pay6 (F := Ideal) x (k0_pay1 (F := Ideal)) (ix2 0 j)
      = IntOp.ori (IntOp.cmpi .eq (Scale.field (peak (val x j))) 0#32) (IntOp.cmpi .eq (Scale.field (peak (val x j))) 255#32) := by
  unfold k0_pay6
  pointwise
  rw [pay5_apply]

/-- The scale of token `j`'s group. -/
theorem groupScale_apply (x : Vec Ideal S1x256x256 .bf16) (j : Fin 256) :
    Trip.groupScale (F := Ideal) x (k0_pay1 (F := Ideal)) (ix3 0 0 j) = Scale.kscale (peak (val x j)) := by
  unfold Trip.groupScale k0_pay10 k0_pay8 k0_pay7
  pointwise
  rw [pay5_apply, pay6_apply]
  rfl

/-- The code of lane `t` of token `j`. -/
theorem groupCodes_apply (x : Vec Ideal S1x256x256 .bf16) (j : Fin 256) (t : Fin 128) :
    Trip.groupCodes (F := Ideal) x (k0_pay1 (F := Ideal)) (ix3 0 j t)
      = min (Ideal.ofBits .f32 1138753536#32)
          (max (Ideal.ofBits .f32 3286237184#32) (val x j t * Scale.kinv (peak (val x j)))) := by
  unfold Trip.groupCodes k0_pay9 k0_pay8 k0_pay7
  pointwise
  rw [pay4_apply, pay5_apply, pay6_apply]
  rfl

end Cert.KernelIdeal.Group

end
-- ==== Proof.Ref.lean ====
/-
  What the reference's host operations leave in two buffers: the scale array (a result) and the array of clipped values that the cast to fp8 reads.
  Both are given as named vector expressions of the argument array, each a few operations long, for any float values `F`.
-/
module
public import proofs.«01_k».proof.Proof.Gen.ReferenceIdeal.Value
public import Idealize.ShloMosaic.Lib.Pointwise

@[expose] public section

set_option maxRecDepth 16384

noncomputable section

namespace Cert.ReferenceIdeal.Ref

open Cert.ReferenceIdeal Cert.ReferenceIdeal.Gen Idealize.ShloMosaic Idealize.ShloMosaic.TcCoe Idealize.SL.Sem

variable {F : FTy → Type} [FloatOps F]

/-- A scalar constant spread over the groups. -/
def fill (w : BitVec 32) : Vec F S9x4096x18 .f32 := broadcastInDim S9x4096x18 ![] bcast_S_S9x4096x18 (constant S_ .f32 w)

/-- The gates: the even columns of the argument. -/
def gate (A : Vec F S9x4096x4608 .bf16) : Vec F S9x4096x2304 .f32 :=
  extf .f32 (Host.slice S9x4096x2304 ![0, 0, 0] ![1, 1, 2] A slicesBy_S9x4096x4608_S9x4096x2304_0s1_0s1_0s2) bitsLt_bf16_f32

/-- The ups: the odd columns of the argument. -/
def up (A : Vec F S9x4096x4608 .bf16) : Vec F S9x4096x2304 .f32 :=
  extf .f32 (Host.slice S9x4096x2304 ![0, 0, 1] ![1, 1, 2] A slicesBy_S9x4096x4608_S9x4096x2304_0s1_0s1_1s2) bitsLt_bf16_f32

/-- A scalar constant spread over the columns. -/
def ones : Vec F S9x4096x2304 .f32 := broadcastInDim S9x4096x2304 ![] bcast_S_S9x4096x2304 (constant S_ .f32 0x3F800000#32)

/-- The activation, cut into groups of 128: gate · sigmoid(gate) · up. -/
def act (A : Vec F S9x4096x4608 .bf16) : Vec F S9x4096x18x128 .f32 :=
  shapeCast S9x4096x18x128 (mulf (mulf (gate A) (Host.divf ones (addf ones (Host.exp (Host.negf (gate A)))))) (up A))
    shapeCasts_S9x4096x2304_S9x4096x18x128

/-- The greatest magnitude of each group. -/
def amax (y : Vec F S9x4096x18x128 .f32) : Vec F S9x4096x18 .f32 :=
  Host.reduce FloatOps.maximumf (Host.absf y) (constant S_ .f32 0xFF800000#32) reducesTo_S9x4096x18x128_S9x4096x18_d3 h_S_

/-- The exponent of each group's scale, before the guards for an empty and an infinite group. -/
def expo0 (z : Vec F S9x4096x18 .f32) : Vec F S9x4096x18 .f32 :=
  select (cmpf .olt z (fill 0x00800000#32)) (fill 0x00000000#32)
    (addf (Host.floor (Host.divf (Host.log z) (broadcastInDim S9x4096x18 ![] bcast_S_S9x4096x18 (Host.log (constant S_ .f32 0x40000000#32)))))
      (fill 0x3F800000#32))

/-- The exponent of each group's scale, from the group's greatest magnitude. -/
def expo (a : Vec F S9x4096x18 .f32) : Vec F S9x4096x18 .f32 :=
  select (ori (cmpf .oeq a (fill 0x00000000#32)) (cmpf .ogt a (fill 0x7F7FFFFF#32))) (fill 0x00000000#32)
    (expo0 (mulf a (fill 0x3B124925#32)))

/-- The scales: two to the exponents, the token axis last. -/
def scl (e : Vec F S9x4096x18 .f32) : Vec F S9x18x4096 .f32 :=
  transpose S9x18x4096 [0, 2, 1] (Host.powf (fill 0x40000000#32) e) transposes_S9x4096x18_S9x18x4096_0_2_1

/-- A scalar constant spread over the grouped values. -/
def fillG (w : BitVec 32) : Vec F S9x4096x18x128 .f32 :=
  broadcastInDim S9x4096x18x128 ![] bcast_S_S9x4096x18x128 (constant S_ .f32 w)

/-- The values divided by their scales and clipped, before the cast. -/
def clipped (y : Vec F S9x4096x18x128 .f32) (e : Vec F S9x4096x18 .f32) : Vec F S9x4096x2304 .f32 :=
  shapeCast S9x4096x2304
    (minimumf (fillG 0x43E00000#32) (maximumf (fillG 0xC3E00000#32)
      (mulf y (broadcastInDim S9x4096x18x128 ![0, 1, 2, 3] bcast_S9x4096x18x1_S9x4096x18x128_0_1_2_3
        (broadcastInDim S9x4096x18x1 ![0, 1, 2] bcast_S9x4096x18_S9x4096x18x1_0_1_2
          (Host.powf (fill 0x40000000#32) (Host.negf e)))))))
    shapeCasts_S9x4096x18x128_S9x4096x2304

variable (m : (ℓ : Loc nD τ sig) → Buf (Elt F) ℓ) (c : Dev nD)

/-- The argument array. -/
abbrev arg : Vec F S9x4096x4608 .bf16 := m (c, (main_arg0 : DevRef τ sig))

/-- The scale result holds the scales of the argument's groups. -/
theorem V_scales : V m c main_v36 = scl (expo (amax (act (arg m c)))) := by
  unfold V
  simp only [hostOps0, hostOps0_1, hostOps0_2, hostOps0_3, hostOps0_4, hostOps0_5, hostOps0_6, List.flatten_cons,
    List.flatten_nil, List.append_nil, List.cons_append, List.nil_append]
  after_results
  simp only [StableHlo.TRef.ofBuf_toBuf]
  rfl

/-- The array that the cast reads holds the clipped values. -/
theorem V_clipped : V m c main_v44 = clipped (act (arg m c)) (expo (amax (act (arg m c)))) := by
  unfold V
  simp only [hostOps0, hostOps0_1, hostOps0_2, hostOps0_3, hostOps0_4, hostOps0_5, hostOps0_6, List.flatten_cons,
    List.flatten_nil, List.append_nil, List.cons_append, List.nil_append]
  after_results
  simp only [StableHlo.TRef.ofBuf_toBuf]
  rfl

end Cert.ReferenceIdeal.Ref

end
-- ==== Proof.RefRun.lean ====
/-
  The run of the reference: its first result ends at the cast of the clipped values, its second at the scales, and the argument is unchanged, for any float values `F`.
-/
module
public import proofs.«01_k».proof.Proof.Ref

@[expose] public section

set_option maxRecDepth 16384

noncomputable section

namespace Cert.ReferenceIdeal.Ref

open Cert.ReferenceIdeal Cert.ReferenceIdeal.Gen Idealize.ShloMosaic Idealize.ShloMosaic.TcCoe Idealize.SL.Sem

variable {F : FTy → Type} [FloatOps F]

/-- The codes: the clipped values, each cast to fp8. -/
def codes (v : Vec F S9x4096x2304 .f32) : Vec F S9x4096x2304 .fp8e4m3 := fun y => FloatOps.truncf .fp8e4m3 bitsLt_fp8e4m3_f32 (v y)

variable (m : (ℓ : Loc nD τ sig) → Buf (Elt F) ℓ) (ρ : Dev nD → PrngReg) (c : Dev nD)

/-- The one point of the grid. -/
def pt : Fin cfg0.N := ⟨0, by decide +kernel⟩

theorem pt_flush : (cfg0.win 1).flush pt = true := by decide +kernel

/-- The one block of the output window is the whole array. -/
theorem emb_out (y : S9x4096x2304.Idx) : ((cfg0.win 1).blk pt).view.emb y = y := by
  refine funext fun a => Fin.ext ?_
  match a with
  | ⟨0, _⟩ => show 0 * 9 + 1 * (y 0).val = (y 0).val; omega
  | ⟨1, _⟩ => show 0 * 4096 + 1 * (y 1).val = (y 1).val; omega
  | ⟨2, _⟩ => show 0 * 2304 + 1 * (y 2).val = (y 2).val; omega

/-- The one block of the input window is the whole array. -/
theorem emb_in (y : S9x4096x2304.Idx) : ((cfg0.win 0).blk pt).view.emb y = y := by
  refine funext fun a => Fin.ext ?_
  match a with
  | ⟨0, _⟩ => show 0 * 9 + 1 * (y 0).val = (y 0).val; omega
  | ⟨1, _⟩ => show 0 * 4096 + 1 * (y 1).val = (y 1).val; omega
  | ⟨2, _⟩ => show 0 * 2304 + 1 * (y 2).val = (y 2).val; omega

/-- The input block is the array of clipped values. -/
theorem iblk_in (y : S9x4096x2304.Idx) : iblk m c 0 pt y = V m c main_v44 y := by
  have h : iblk m c 0 pt y = V m c main_v44 (((cfg0.win 0).blk pt).view.emb y) := rfl
  rw [h, emb_in]

/-- What the one point stores. -/
theorem out_apply (x : Vec F S9x4096x2304 .f32) (y : S9x4096x2304.Idx) : out0_1 x y = codes x y := by
  unfold out0_1
  rw [Value.canon1_eq]
  unfold codes Value.E1
  refine congrArg _ ?_
  show x (r0_0.idx (Value.ix1_0 y)) = x y
  refine congrArg _ (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The array of codes the reference's cast leaves is the cast of the array it reads. -/
theorem arr_codes : (dats m 0 c).arrAt 1 cfg0.N = codes (V m c main_v44) := by
  funext y
  have hb := congrFun (Value.blocks1 m c pt pt_flush) y
  rw [Value.flushed1] at hb
  have hl : ∀ X : Vec F S9x4096x2304 .fp8e4m3, ((cfg0.win 1).blk pt).view.read (Elt F) X y = X y := fun X => by
    show X (((cfg0.win 1).blk pt).view.emb y) = X y
    rw [emb_out]
  have hr : ∀ X : Vec F S9x4096x2304 .fp8e4m3, (cfg0.win 1).cut (grid0.coords pt) X y = X y := fun X => rfl
  refine (hl _).symm.trans (hb.trans ((hr _).trans ((out_apply _ y).trans ?_)))
  unfold codes
  exact congrArg _ (iblk_in m c y)

/-- The reference's run, with both results named. -/
theorem run : θ_run defs (onTc (τ := τ) (main (F := F))) ⟨m, fun _ => 0, ρ⟩ fun r => ∀ c : Dev nD,
      r.2.mem ((c : Thread nD τ).loc main_v45) = codes (clipped (act (arg m c)) (expo (amax (act (arg m c)))))
      ∧ r.2.mem ((c : Thread nD τ).loc main_v36) = scl (expo (amax (act (arg m c))))
      ∧ r.2.mem ((c : Thread nD τ).loc main_arg0) = m ((c : Thread nD τ).loc main_arg0) :=
  (θ_run defs _ _).mono (fun r h c => ⟨(Value.post1 m r h c).trans ((arr_codes m c).trans (by rw [V_clipped])),
      ((h c).2 main_v36 (Pipeline.mem_restRefs_of main_v36 (by decide) (by decide))).trans (V_scales m c),
      Value.kept_main_arg0 m r h c⟩)
    (run_main m ρ)

end Cert.ReferenceIdeal.Ref

end
-- ==== Proof.Equation.lean ====
/-
  The equation between the kernel's arrays and the reference's, over the extended reals, and the claim that follows from the two runs.
-/
module
public import proofs.«01_k».proof.Defs
public import proofs.«01_k».proof.Proof.Gen.KernelIdeal.Value
public import proofs.«01_k».proof.Proof.Fold
public import proofs.«01_k».proof.Proof.Group
public import proofs.«01_k».proof.Proof.RefRun

@[expose] public section

set_option maxRecDepth 16384

noncomputable section

namespace Cert.Equation

open Idealize.ShloMosaic Idealize.ShloMosaic.TcCoe Idealize.SL.Sem

/-- The activation at lane `t` of group `g` of token `i` of batch `b`, from the argument array. -/
def val (A : Vec Ideal Cert.KernelIdeal.S9x4096x4608 .bf16) (b : Fin 9) (i : Fin 4096) (g : Fin 18) (t : Fin 128) : EReal :=
  KernelIdeal.Group.act (A (ix3 b i ⟨2 * (g.val * 128 + t.val), by omega⟩)) (A (ix3 b i ⟨1 + 2 * (g.val * 128 + t.val), by omega⟩))

/-! ## The kernel's arrays -/

section Kernel

open Cert.KernelIdeal Cert.KernelIdeal.Gen Cert.KernelIdeal.Group Cert.KernelIdeal.Fold

/-- A window's activations are the argument's. -/
theorem window_val (A : Vec Ideal S9x4096x4608 .bf16) (b : Fin 9) (p : Fin 16) (g : Fin 18) (j : Fin 256) (i : Fin 4096)
    (hi : i.val = 256 * p.val + j.val) : Group.val (arrWindow A b p g) j = val A b i g := by
  funext t
  unfold Group.val Equation.val arrWindow
  refine congrArg₂ _ (congrArg _ (funext fun a => Fin.ext ?_)) (congrArg _ (funext fun a => Fin.ext ?_))
  · match a with
    | ⟨0, _⟩ => rfl
    | ⟨1, _⟩ => exact hi.symm
    | ⟨2, _⟩ => show 256 * g.val + 2 * t.val = 2 * (g.val * 128 + t.val); omega
  · match a with
    | ⟨0, _⟩ => rfl
    | ⟨1, _⟩ => exact hi.symm
    | ⟨2, _⟩ => show 256 * g.val + (1 + 2 * t.val) = 1 + 2 * (g.val * 128 + t.val); omega

/-- The array of scales at an index, as its group's scale. -/
theorem arrScale_ix {F : FTy → Type} [FloatOps F] (A : Vec F S9x4096x4608 .bf16) (b : Fin 9) (g : Fin 18) (i : Fin 4096) :
    arrScale A (ix3 b g i)
      = Trip.groupScale (arrWindow A b ⟨i.val / 256, by omega⟩ g) k0_pay1 (ix3 0 0 ⟨i.val % 256, by omega⟩) := by
  unfold arrScale
  dsimp only
  refine congrArg (Trip.groupScale (arrWindow A b ⟨i.val / 256, by omega⟩ g) k0_pay1) (funext fun a => ?_)
  match a with
  | ⟨0, _⟩ => rfl
  | ⟨1, _⟩ => rfl
  | ⟨2, _⟩ => rfl

/-- The array of codes at an index, as its group's code. -/
theorem arrCodes_ix {F : FTy → Type} [FloatOps F] (A : Vec F S9x4096x4608 .bf16) (b : Fin 9) (i : Fin 4096) (d : Fin 2304) :
    arrCodes A (ix3 b i d)
      = Trip.groupCodes (arrWindow A b ⟨i.val / 256, by omega⟩ ⟨d.val / 128, by omega⟩) k0_pay1
          (ix3 0 ⟨i.val % 256, by omega⟩ ⟨d.val % 128, by omega⟩) := by
  unfold arrCodes
  dsimp only
  refine congrArg (Trip.groupCodes (arrWindow A b ⟨i.val / 256, by omega⟩ ⟨d.val / 128, by omega⟩) k0_pay1) (funext fun a => ?_)
  match a with
  | ⟨0, _⟩ => rfl
  | ⟨1, _⟩ => rfl
  | ⟨2, _⟩ => rfl

/-- The kernel's scale of group `g` of token `i`. -/
theorem arrScale_apply (A : Vec Ideal S9x4096x4608 .bf16) (b : Fin 9) (g : Fin 18) (i : Fin 4096) :
    arrScale (F := Ideal) A (ix3 b g i) = Scale.kscale (peak (val A b i g)) := by
  rw [arrScale_ix, groupScale_apply, window_val A b _ g _ i (by show i.val = 256 * (i.val / 256) + i.val % 256; omega)]

/-- The kernel's code of column `d` of token `i`. -/
theorem arrCodes_apply (A : Vec Ideal S9x4096x4608 .bf16) (b : Fin 9) (i : Fin 4096) (d : Fin 2304) :
    arrCodes (F := Ideal) A (ix3 b i d)
      = min (Ideal.ofBits .f32 1138753536#32)
          (max (Ideal.ofBits .f32 3286237184#32)
            (val A b i ⟨d.val / 128, by omega⟩ ⟨d.val % 128, by omega⟩
              * Scale.kinv (peak (val A b i ⟨d.val / 128, by omega⟩)))) := by
  rw [arrCodes_ix, groupCodes_apply, window_val A b _ _ _ i (by show i.val = 256 * (i.val / 256) + i.val % 256; omega)]

end Kernel

/-! ## The reference's arrays -/

section Reference

open Cert.ReferenceIdeal Cert.ReferenceIdeal.Ref

/-- The reference's activation at an index. -/
theorem act_apply (A : Vec Ideal S9x4096x4608 .bf16) (b : Fin 9) (i : Fin 4096) (g : Fin 18) (t : Fin 128) :
    act (F := Ideal) A (ix4 b i g t) = val A b i g t := by
  pointwise [act, gate, up, ones]
  unfold val KernelIdeal.Group.act
  with_reducible rfl

/-- The reference's greatest magnitude of a group. -/
theorem amax_apply (A : Vec Ideal S9x4096x4608 .bf16) (b : Fin 9) (i : Fin 4096) (g : Fin 18) :
    amax (F := Ideal) (act A) (ix3 b i g) = KernelIdeal.Group.peak (val A b i g) := by
  pointwise [amax]
  simp only [act_apply]
  unfold KernelIdeal.Group.peak
  with_reducible rfl

/-- The reference's exponent of a group. -/
theorem expo_apply (a : Vec Ideal S9x4096x18 .f32) (b : Fin 9) (i : Fin 4096) (g : Fin 18) :
    expo (F := Ideal) a (ix3 b i g) = Scale.rexp (a (ix3 b i g)) := by
  pointwise [expo, expo0, fill]
  unfold Scale.rexp
  with_reducible rfl

/-- The reference's scale of group `g` of token `i`, from the exponents. -/
theorem scl_ix (e : Vec Ideal S9x4096x18 .f32) (b : Fin 9) (g : Fin 18) (i : Fin 4096) :
    scl (F := Ideal) e (ix3 b g i) = Ideal.pow (Ideal.ofBits .f32 1073741824#32) (e (ix3 b i g)) := by
  pointwise [scl, fill]

/-- The reference's clipped value at column `d` of token `i`, from the activations and the exponents. -/
theorem clipped_ix (y : Vec Ideal S9x4096x18x128 .f32) (e : Vec Ideal S9x4096x18 .f32) (b : Fin 9) (i : Fin 4096) (d : Fin 2304) :
    clipped (F := Ideal) y e (ix3 b i d)
      = min (Ideal.ofBits .f32 1138753536#32)
          (max (Ideal.ofBits .f32 3286237184#32)
            (y (ix4 b i ⟨d.val / 128, by omega⟩ ⟨d.val % 128, by omega⟩)
              * Ideal.pow (Ideal.ofBits .f32 1073741824#32) (-e (ix3 b i ⟨d.val / 128, by omega⟩)))) := by
  pointwise [clipped, fillG, fill]

/-- Over the extended reals the cast keeps every value. -/
theorem codes_ix (v : Vec Ideal S9x4096x2304 .f32) (y : S9x4096x2304.Idx) : codes (F := Ideal) v y = v y := rfl

/-- The reference's scale of group `g` of token `i`. -/
theorem scl_apply (A : Vec Ideal S9x4096x4608 .bf16) (b : Fin 9) (g : Fin 18) (i : Fin 4096) :
    scl (F := Ideal) (expo (amax (act A))) (ix3 b g i) = Scale.rscale (KernelIdeal.Group.peak (val A b i g)) := by
  rw [scl_ix, expo_apply, amax_apply, Scale.rscale]

/-- The reference's code of column `d` of token `i`. -/
theorem codes_apply (A : Vec Ideal S9x4096x4608 .bf16) (b : Fin 9) (i : Fin 4096) (d : Fin 2304) :
    codes (F := Ideal) (clipped (act A) (expo (amax (act A)))) (ix3 b i d)
      = min (Ideal.ofBits .f32 1138753536#32)
          (max (Ideal.ofBits .f32 3286237184#32)
            (val A b i ⟨d.val / 128, by omega⟩ ⟨d.val % 128, by omega⟩
              * Scale.rinv (KernelIdeal.Group.peak (val A b i ⟨d.val / 128, by omega⟩)))) := by
  rw [codes_ix, clipped_ix, expo_apply, amax_apply, act_apply, Scale.rinv]

end Reference

/-! ## The equation -/

/-- The two programs compute the same codes. -/
theorem codes_eq (A : Vec Ideal Cert.KernelIdeal.S9x4096x4608 .bf16) :
    KernelIdeal.Fold.arrCodes (F := Ideal) A
      = ReferenceIdeal.Ref.codes (ReferenceIdeal.Ref.clipped (ReferenceIdeal.Ref.act A)
          (ReferenceIdeal.Ref.expo (ReferenceIdeal.Ref.amax (ReferenceIdeal.Ref.act A)))) := by
  funext y
  idx_vars y
  rw [arrCodes_apply, codes_apply, Scale.inv_eq _ (KernelIdeal.Group.peak_nonneg _)]

/-- The two programs compute the same scales. -/
theorem scales_eq (A : Vec Ideal Cert.KernelIdeal.S9x4096x4608 .bf16) :
    KernelIdeal.Fold.arrScale (F := Ideal) A
      = ReferenceIdeal.Ref.scl (ReferenceIdeal.Ref.expo (ReferenceIdeal.Ref.amax (ReferenceIdeal.Ref.act A))) := by
  funext y
  idx_vars y
  rw [arrScale_apply, scl_apply, Scale.scale_eq _ (KernelIdeal.Group.peak_nonneg _)]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From launch memories whose arguments agree, the kernel and the reference both end with equal codes and equal scales, over the extended reals. -/
theorem algebraic : Cert.algebraic_KernelIdeal_ReferenceIdeal :=
  fun m ρ m' ρ' _ hag =>
    ⟨fun c => Cert.KernelIdeal.Value.G1 m c, fun c => Cert.KernelIdeal.Value.G2 m c, Cert.KernelIdeal.Value.run (F := Ideal) m ρ,
      (θ_run _ _ _).mono
        (fun _ h c => ⟨(h c).1.trans (((Cert.KernelIdeal.Fold.G1_eq m c).trans
              ((Cert.Equation.codes_eq _).trans (by rw [← hag c]))).symm),
          (h c).2.1.trans (((Cert.KernelIdeal.Fold.G2_eq m c).trans
              ((Cert.Equation.scales_eq _).trans (by rw [← hag c]))).symm),
          (h c).2.2⟩)
        (Cert.ReferenceIdeal.Ref.run (F := Ideal) m' ρ')⟩

/-- Every claim: the three frames, that no rewrite changed the kernel, and the equation of both results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
